-- ==== Defs.lean ====
def Pre_Kernel (m : (ℓ : Loc Cert.Kernel.nD Cert.Kernel.τ Cert.Kernel.sig) → Buf (Elt Bits) ℓ) : Prop :=
  True

def Pre_Kernel_finite_Kernel [hPre_finite_Kernel : Cert.Pre_finite_Kernel.Facts] (m : (ℓ : Loc Cert.Kernel.nD Cert.Kernel.τ Cert.Kernel.sig) → Buf (Elt Bits) ℓ) : Prop :=
  ∀ c : Dev Cert.Kernel.nD,
    (Cert.Pre_finite_Kernel.fn (F := Bits) (m ((c.tc : Thread Cert.Kernel.nD Cert.Kernel.τ).loc Cert.Kernel.main_arg0)) (m ((c.tc : Thread Cert.Kernel.nD Cert.Kernel.τ).loc Cert.Kernel.main_arg1))).1 = (fun _ => 1#1)
    ∧ (Cert.Pre_finite_Kernel.fn (F := Bits) (m ((c.tc : Thread Cert.Kernel.nD Cert.Kernel.τ).loc Cert.Kernel.main_arg0)) (m ((c.tc : Thread Cert.Kernel.nD Cert.Kernel.τ).loc Cert.Kernel.main_arg1))).2 = (fun _ => 1#1)

def Pre_KernelIdeal [hPre_finite_Kernel : Cert.Pre_finite_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_finite_Kernel [hKernel : Cert.Kernel.Facts] [hPre_finite_Kernel : Cert.Pre_finite_Kernel.Facts] : Prop :=
  ∀ (m : (ℓ : Loc Cert.Kernel.nD Cert.Kernel.τ Cert.Kernel.sig) → Buf (Elt Bits) ℓ) (g : Dev Cert.Kernel.nD → PrngReg), Pre_Kernel_finite_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_finite_Kernel : Cert.Pre_finite_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_finite_Kernel : Cert.Pre_finite_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_Kernel : Cert.Pre_finite_Kernel.Facts) (hPre_finite_ReferenceIdeal : Cert.Pre_finite_ReferenceIdeal.Facts),
    quiescent_Kernel (hKernel := hKernel)
    ∧ quiescent_Kernel_pre_finite_Kernel (hKernel := hKernel) (hPre_finite_Kernel := hPre_finite_Kernel)
    ∧ quiescent_KernelIdeal (hKernelIdeal := hKernelIdeal) (hPre_finite_Kernel := hPre_finite_Kernel)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal (hKernelIdeal := hKernelIdeal) (hReferenceIdeal := hReferenceIdeal) (hPre_finite_Kernel := hPre_finite_Kernel)
-- ==== Pre_finite_Kernel.lean ====
abbrev S512x256 : Shape := ⟨2, ![512, 256]⟩
abbrev S256x256 : Shape := ⟨2, ![256, 256]⟩
abbrev S_ : Shape := ⟨0, ![]⟩

class Facts : Prop where
  bitsLt_bf16_f32 : FTy.bits .bf16 < FTy.bits .f32
  bcast_S_S512x256 : S_.BroadcastsInDim S512x256 (![] : Fin 0 → Fin S512x256.rank)
  bcast_S_S256x256 : S_.BroadcastsInDim S256x256 (![] : Fin 0 → Fin S256x256.rank)

variable [Facts]

def fn {F : FTy → Type} [FloatOps F] (main_arg0 : FVec F S512x256 .bf16) (main_arg1 : FVec F S256x256 .bf16) : IVec S512x256 1 × IVec S256x256 1 :=
  let main_v0 : FVec F S512x256 .f32 := (extf .f32 · bitsLt_bf16_f32) main_arg0
  let main_v1 : FVec F S512x256 .f32 := Host.absf main_v0
  let main_cst : FVec F S_ .f32 := constant S_ .f32 0x7F800000#32
  let main_v2 : FVec F S512x256 .f32 := broadcastInDim S512x256 ![] bcast_S_S512x256 main_cst
  let main_v3 : IVec S512x256 1 := cmpf .olt main_v1 main_v2
  let main_v4 : FVec F S256x256 .f32 := (extf .f32 · bitsLt_bf16_f32) main_arg1
  let main_v5 : FVec F S256x256 .f32 := Host.absf main_v4
  let main_cst_0 : FVec F S_ .f32 := constant S_ .f32 0x7F800000#32
  let main_v6 : FVec F S256x256 .f32 := broadcastInDim S256x256 ![] bcast_S_S256x256 main_cst_0
  let main_v7 : IVec S256x256 1 := cmpf .olt main_v5 main_v6
  (main_v3, main_v7)
-- ==== Pre_finite_ReferenceIdeal.lean ====
abbrev S8192x256 : Shape := ⟨2, ![8192, 256]⟩
abbrev S256x256 : Shape := ⟨2, ![256, 256]⟩
abbrev S_ : Shape := ⟨0, ![]⟩

class Facts : Prop where
  bitsLt_bf16_f32 : FTy.bits .bf16 < FTy.bits .f32
  bcast_S_S8192x256 : S_.BroadcastsInDim S8192x256 (![] : Fin 0 → Fin S8192x256.rank)
  bcast_S_S256x256 : S_.BroadcastsInDim S256x256 (![] : Fin 0 → Fin S256x256.rank)

variable [Facts]

def fn {F : FTy → Type} [FloatOps F] (main_arg0 : FVec F S8192x256 .bf16) (main_arg1 : FVec F S256x256 .bf16) : IVec S8192x256 1 × IVec S256x256 1 :=
  let main_v0 : FVec F S8192x256 .f32 := (extf .f32 · bitsLt_bf16_f32) main_arg0
  let main_v1 : FVec F S8192x256 .f32 := Host.absf main_v0
  let main_cst : FVec F S_ .f32 := constant S_ .f32 0x7F800000#32
  let main_v2 : FVec F S8192x256 .f32 := broadcastInDim S8192x256 ![] bcast_S_S8192x256 main_cst
  let main_v3 : IVec S8192x256 1 := cmpf .olt main_v1 main_v2
  let main_v4 : FVec F S256x256 .f32 := (extf .f32 · bitsLt_bf16_f32) main_arg1
  let main_v5 : FVec F S256x256 .f32 := Host.absf main_v4
  let main_cst_0 : FVec F S_ .f32 := constant S_ .f32 0x7F800000#32
  let main_v6 : FVec F S256x256 .f32 := broadcastInDim S256x256 ![] bcast_S_S256x256 main_cst_0
  let main_v7 : IVec S256x256 1 := cmpf .olt main_v5 main_v6
  (main_v3, main_v7)
-- ==== Kernel.lean ====
abbrev S512x256 : Shape := ⟨2, ![512, 256]⟩
abbrev S256x256 : Shape := ⟨2, ![256, 256]⟩
abbrev S2 : Shape := ⟨1, ![2]⟩
abbrev S2x4x4x64x256 : Shape := ⟨5, ![2, 4, 4, 64, 256]⟩
abbrev S2x4x4 : Shape := ⟨3, ![2, 4, 4]⟩
abbrev S_ : Shape := ⟨0, ![]⟩
abbrev S1 : Shape := ⟨1, ![1]⟩
abbrev S64x256 : Shape := ⟨2, ![64, 256]⟩
abbrev S1x1x1x64x256 : Shape := ⟨5, ![1, 1, 1, 64, 256]⟩
abbrev S1x1x1 : Shape := ⟨3, ![1, 1, 1]⟩

abbrev nBuf : Space → Nat
  | .hbm => 3
  | .vmem => 5
  | .smem => 0
  | _ => 0

abbrev bufTy : (tb : Table) → Fin (tcTables nBuf tb) → BufTy
  | .hbm, ⟨0, _⟩ => ⟨S512x256, .bf16⟩
  | .hbm, ⟨1, _⟩ => ⟨S256x256, .bf16⟩
  | .hbm, ⟨2, _⟩ => ⟨S512x256, .bf16⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S2x4x4x64x256, .bf16⟩
  | .local _ .vmem, ⟨4, _⟩ => ⟨S2x4x4x64x256, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch3 : Ref sig .tc := ⟨.vmem, 3, rfl⟩
abbrev cc0_scratch4 : Ref sig .tc := ⟨.vmem, 4, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v13 : BitVec 32 := Scalar.xori v2 c8_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_24 : BitVec 32 := 1#32
  let v32 : BitVec 32 := Scalar.xori v2 c1_i32_24
  let c1_i32_77 : BitVec 32 := 1#32
  let v68 : BitVec 32 := Scalar.muli v32 c1_i32_77
  let v69 : BitVec 32 := Scalar.addi c0_i32_78 v68
  v69.toNat
def k0_dev6 (d0 : Dev nD) : Nat :=
  let c0_i32_96 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_29 : BitVec 32 := 4#32
  let v37 : BitVec 32 := Scalar.xori v2 c4_i32_29
  let c1_i32_95 : BitVec 32 := 1#32
  let v78 : BitVec 32 := Scalar.muli v37 c1_i32_95
  let v79 : BitVec 32 := Scalar.addi c0_i32_96 v78
  v79.toNat
def k0_dev7 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_35 : BitVec 32 := 1#32
  let v42 : BitVec 32 := Scalar.xori v2 c1_i32_35
  let c1_i32_113 : BitVec 32 := 1#32
  let v88 : BitVec 32 := Scalar.muli v42 c1_i32_113
  let v89 : BitVec 32 := Scalar.addi c0_i32_114 v88
  v89.toNat
def k0_dev8 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_41 : BitVec 32 := 4#32
  let v47 : BitVec 32 := Scalar.xori v2 c4_i32_41
  let c1_i32_131 : BitVec 32 := 1#32
  let v98 : BitVec 32 := Scalar.muli v47 c1_i32_131
  let v99 : BitVec 32 := Scalar.addi c0_i32_132 v98
  v99.toNat
def k0_dev9 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_46 : BitVec 32 := 1#32
  let v52 : BitVec 32 := Scalar.xori v2 c1_i32_46
  let c1_i32_148 : BitVec 32 := 1#32
  let v108 : BitVec 32 := Scalar.muli v52 c1_i32_148
  let v109 : BitVec 32 := Scalar.addi c0_i32_149 v108
  v109.toNat
def k0_dev10 (d0 : Dev nD) : Nat :=
  let c0_i32_167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_52 : BitVec 32 := 4#32
  let v57 : BitVec 32 := Scalar.xori v2 c4_i32_52
  let c1_i32_166 : BitVec 32 := 1#32
  let v118 : BitVec 32 := Scalar.muli v57 c1_i32_166
  let v119 : BitVec 32 := Scalar.addi c0_i32_167 v118
  v119.toNat
def k0_dev11 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_57 : BitVec 32 := 1#32
  let v62 : BitVec 32 := Scalar.xori v2 c1_i32_57
  let c1_i32_184 : BitVec 32 := 1#32
  let v128 : BitVec 32 := Scalar.muli v62 c1_i32_184
  let v129 : BitVec 32 := Scalar.addi c0_i32_185 v128
  v129.toNat
def k0_dev12 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_63 : BitVec 32 := 4#32
  let v67 : BitVec 32 := Scalar.xori v2 c4_i32_63
  let c1_i32_202 : BitVec 32 := 1#32
  let v138 : BitVec 32 := Scalar.muli v67 c1_i32_202
  let v139 : BitVec 32 := Scalar.addi c0_i32_203 v138
  v139.toNat
def k0_dev13 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_241 : BitVec 32 := 3#32
  let v164 : BitVec 32 := Scalar.xori v2 c3_i32_241
  let c1_i32_254 : BitVec 32 := 1#32
  let v165 : BitVec 32 := Scalar.muli v164 c1_i32_254
  let v166 : BitVec 32 := Scalar.addi c0_i32_255 v165
  v166.toNat
def k0_dev14 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_293 : BitVec 32 := 8#32
  let v191 : BitVec 32 := Scalar.xori v2 c8_i32_293
  let c1_i32_306 : BitVec 32 := 1#32
  let v192 : BitVec 32 := Scalar.muli v191 c1_i32_306
  let v193 : BitVec 32 := Scalar.addi c0_i32_307 v192
  v193.toNat
def k0_dev15 (d0 : Dev nD) : Nat :=
  let c0_i32_359 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_345 : BitVec 32 := 3#32
  let v218 : BitVec 32 := Scalar.xori v2 c3_i32_345
  let c1_i32_358 : BitVec 32 := 1#32
  let v219 : BitVec 32 := Scalar.muli v218 c1_i32_358
  let v220 : BitVec 32 := Scalar.addi c0_i32_359 v219
  v220.toNat
def k0_dev16 (d0 : Dev nD) : Nat :=
  let c0_i32_411 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_397 : BitVec 32 := 8#32
  let v245 : BitVec 32 := Scalar.xori v2 c8_i32_397
  let c1_i32_410 : BitVec 32 := 1#32
  let v246 : BitVec 32 := Scalar.muli v245 c1_i32_410
  let v247 : BitVec 32 := Scalar.addi c0_i32_411 v246
  v247.toNat
def k0_dev17 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_449 : BitVec 32 := 3#32
  let v272 : BitVec 32 := Scalar.xori v2 c3_i32_449
  let c1_i32_462 : BitVec 32 := 1#32
  let v273 : BitVec 32 := Scalar.muli v272 c1_i32_462
  let v274 : BitVec 32 := Scalar.addi c0_i32_463 v273
  v274.toNat
def k0_dev18 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_501 : BitVec 32 := 8#32
  let v299 : BitVec 32 := Scalar.xori v2 c8_i32_501
  let c1_i32_514 : BitVec 32 := 1#32
  let v300 : BitVec 32 := Scalar.muli v299 c1_i32_514
  let v301 : BitVec 32 := Scalar.addi c0_i32_515 v300
  v301.toNat
def k0_dev19 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_553 : BitVec 32 := 3#32
  let v326 : BitVec 32 := Scalar.xori v2 c3_i32_553
  let c1_i32_566 : BitVec 32 := 1#32
  let v327 : BitVec 32 := Scalar.muli v326 c1_i32_566
  let v328 : BitVec 32 := Scalar.addi c0_i32_567 v327
  v328.toNat
def k0_dev20 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_605 : BitVec 32 := 8#32
  let v353 : BitVec 32 := Scalar.xori v2 c8_i32_605
  let c1_i32_618 : BitVec 32 := 1#32
  let v354 : BitVec 32 := Scalar.muli v353 c1_i32_618
  let v355 : BitVec 32 := Scalar.addi c0_i32_619 v354
  v355.toNat
def k0_dev21 (d0 : Dev nD) : Nat :=
  let c0_i32_671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_657 : BitVec 32 := 4#32
  let v380 : BitVec 32 := Scalar.xori v2 c4_i32_657
  let c1_i32_670 : BitVec 32 := 1#32
  let v381 : BitVec 32 := Scalar.muli v380 c1_i32_670
  let v382 : BitVec 32 := Scalar.addi c0_i32_671 v381
  v382.toNat
def k0_dev22 (d0 : Dev nD) : Nat :=
  let c0_i32_723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_709 : BitVec 32 := 1#32
  let v407 : BitVec 32 := Scalar.xori v2 c1_i32_709
  let c1_i32_722 : BitVec 32 := 1#32
  let v408 : BitVec 32 := Scalar.muli v407 c1_i32_722
  let v409 : BitVec 32 := Scalar.addi c0_i32_723 v408
  v409.toNat
def k0_dev23 (d0 : Dev nD) : Nat :=
  let c0_i32_775 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_761 : BitVec 32 := 4#32
  let v434 : BitVec 32 := Scalar.xori v2 c4_i32_761
  let c1_i32_774 : BitVec 32 := 1#32
  let v435 : BitVec 32 := Scalar.muli v434 c1_i32_774
  let v436 : BitVec 32 := Scalar.addi c0_i32_775 v435
  v436.toNat
def k0_dev24 (d0 : Dev nD) : Nat :=
  let c0_i32_827 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_813 : BitVec 32 := 1#32
  let v461 : BitVec 32 := Scalar.xori v2 c1_i32_813
  let c1_i32_826 : BitVec 32 := 1#32
  let v462 : BitVec 32 := Scalar.muli v461 c1_i32_826
  let v463 : BitVec 32 := Scalar.addi c0_i32_827 v462
  v463.toNat
def k0_dev25 (d0 : Dev nD) : Nat :=
  let c0_i32_879 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_865 : BitVec 32 := 4#32
  let v488 : BitVec 32 := Scalar.xori v2 c4_i32_865
  let c1_i32_878 : BitVec 32 := 1#32
  let v489 : BitVec 32 := Scalar.muli v488 c1_i32_878
  let v490 : BitVec 32 := Scalar.addi c0_i32_879 v489
  v490.toNat
def k0_dev26 (d0 : Dev nD) : Nat :=
  let c0_i32_931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_917 : BitVec 32 := 1#32
  let v515 : BitVec 32 := Scalar.xori v2 c1_i32_917
  let c1_i32_930 : BitVec 32 := 1#32
  let v516 : BitVec 32 := Scalar.muli v515 c1_i32_930
  let v517 : BitVec 32 := Scalar.addi c0_i32_931 v516
  v517.toNat
def k0_dev27 (d0 : Dev nD) : Nat :=
  let c0_i32_983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_969 : BitVec 32 := 4#32
  let v542 : BitVec 32 := Scalar.xori v2 c4_i32_969
  let c1_i32_982 : BitVec 32 := 1#32
  let v543 : BitVec 32 := Scalar.muli v542 c1_i32_982
  let v544 : BitVec 32 := Scalar.addi c0_i32_983 v543
  v544.toNat
def k0_dev28 (d0 : Dev nD) : Nat :=
  let c0_i32_1035 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1021 : BitVec 32 := 1#32
  let v569 : BitVec 32 := Scalar.xori v2 c1_i32_1021
  let c1_i32_1034 : BitVec 32 := 1#32
  let v570 : BitVec 32 := Scalar.muli v569 c1_i32_1034
  let v571 : BitVec 32 := Scalar.addi c0_i32_1035 v570
  v571.toNat
def k0_dev29 (d0 : Dev nD) : Nat :=
  let c0_i32_1087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1073 : BitVec 32 := 8#32
  let v596 : BitVec 32 := Scalar.xori v2 c8_i32_1073
  let c1_i32_1086 : BitVec 32 := 1#32
  let v597 : BitVec 32 := Scalar.muli v596 c1_i32_1086
  let v598 : BitVec 32 := Scalar.addi c0_i32_1087 v597
  v598.toNat
def k0_dev30 (d0 : Dev nD) : Nat :=
  let c0_i32_1139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1125 : BitVec 32 := 3#32
  let v623 : BitVec 32 := Scalar.xori v2 c3_i32_1125
  let c1_i32_1138 : BitVec 32 := 1#32
  let v624 : BitVec 32 := Scalar.muli v623 c1_i32_1138
  let v625 : BitVec 32 := Scalar.addi c0_i32_1139 v624
  v625.toNat
def k0_dev31 (d0 : Dev nD) : Nat :=
  let c0_i32_1191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1177 : BitVec 32 := 8#32
  let v650 : BitVec 32 := Scalar.xori v2 c8_i32_1177
  let c1_i32_1190 : BitVec 32 := 1#32
  let v651 : BitVec 32 := Scalar.muli v650 c1_i32_1190
  let v652 : BitVec 32 := Scalar.addi c0_i32_1191 v651
  v652.toNat
def k0_dev32 (d0 : Dev nD) : Nat :=
  let c0_i32_1243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1229 : BitVec 32 := 3#32
  let v677 : BitVec 32 := Scalar.xori v2 c3_i32_1229
  let c1_i32_1242 : BitVec 32 := 1#32
  let v678 : BitVec 32 := Scalar.muli v677 c1_i32_1242
  let v679 : BitVec 32 := Scalar.addi c0_i32_1243 v678
  v679.toNat
def k0_dev33 (d0 : Dev nD) : Nat :=
  let c0_i32_1295 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1281 : BitVec 32 := 8#32
  let v704 : BitVec 32 := Scalar.xori v2 c8_i32_1281
  let c1_i32_1294 : BitVec 32 := 1#32
  let v705 : BitVec 32 := Scalar.muli v704 c1_i32_1294
  let v706 : BitVec 32 := Scalar.addi c0_i32_1295 v705
  v706.toNat
def k0_dev34 (d0 : Dev nD) : Nat :=
  let c0_i32_1347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1333 : BitVec 32 := 3#32
  let v731 : BitVec 32 := Scalar.xori v2 c3_i32_1333
  let c1_i32_1346 : BitVec 32 := 1#32
  let v732 : BitVec 32 := Scalar.muli v731 c1_i32_1346
  let v733 : BitVec 32 := Scalar.addi c0_i32_1347 v732
  v733.toNat
def k0_dev35 (d0 : Dev nD) : Nat :=
  let c0_i32_1399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1385 : BitVec 32 := 8#32
  let v758 : BitVec 32 := Scalar.xori v2 c8_i32_1385
  let c1_i32_1398 : BitVec 32 := 1#32
  let v759 : BitVec 32 := Scalar.muli v758 c1_i32_1398
  let v760 : BitVec 32 := Scalar.addi c0_i32_1399 v759
  v760.toNat
def k0_dev36 (d0 : Dev nD) : Nat :=
  let c0_i32_1451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1437 : BitVec 32 := 3#32
  let v785 : BitVec 32 := Scalar.xori v2 c3_i32_1437
  let c1_i32_1450 : BitVec 32 := 1#32
  let v786 : BitVec 32 := Scalar.muli v785 c1_i32_1450
  let v787 : BitVec 32 := Scalar.addi c0_i32_1451 v786
  v787.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x256 : Shape := ⟨2, ![8192, 256]⟩
abbrev S256x256 : Shape := ⟨2, ![256, 256]⟩
abbrev S16x512x256 : Shape := ⟨3, ![16, 512, 256]⟩
abbrev S_ : Shape := ⟨0, ![]⟩
abbrev S512x256 : Shape := ⟨2, ![512, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x256, .bf16⟩
  | .hbm, ⟨2, _⟩ => ⟨S16x512x256, .bf16⟩
  | .hbm, ⟨3, _⟩ => ⟨S16x512x256, .f32⟩
  | .hbm, ⟨4, _⟩ => ⟨S_, .f32⟩
  | .hbm, ⟨5, _⟩ => ⟨S512x256, .f32⟩
  | .hbm, ⟨6, _⟩ => ⟨S512x256, .bf16⟩
  | .hbm, ⟨7, _⟩ => ⟨S512x256, .f32⟩
  | .hbm, ⟨8, _⟩ => ⟨S512x256, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Program.lean ====
/-
# The kernel's body, phase by phase

The kernel runs the same few steps for every half `h`, round `r` and chunk `ch` of its butterfly. This module writes
the body again with those steps as functions of `(h, r, ch)`, run over lists of indices, and proves the written
body equal to the printed one.
-/
module

public import proofs.«01_k».proof.Proof.Gen.KernelIdeal.Skeleton

@[expose] public section

noncomputable section

namespace Cert.Butterfly

open Cert.KernelIdeal Cert.KernelIdeal.Gen
open Idealize.ShloMosaic Idealize.SL.Sem

variable {F : FTy → Type} [FloatOps F]

/-- The number by which a device's partner differs from it, bit by bit, in round `r` of half `h`. -/
def mask (h : Fin 2) (r : Fin 4) : BitVec 32 :=
  (![![1#32, 3#32, 4#32, 8#32], ![4#32, 8#32, 1#32, 3#32]] : Fin 2 → Fin 4 → BitVec 32) h r

/-- The number of the device that differs from `d` by `b`, as the kernel computes it. -/
def peerN (b : BitVec 32) (d : Dev nD) : Nat :=
  (Scalar.addi 0#32 (Scalar.muli (Scalar.xori (Scalar.remsi (Scalar.divsi (Dev.word d) 1#32) 16#32) b) 1#32)).toNat

theorem peerN_lt : ∀ (h : Fin 2) (r : Fin 4) (d : Dev nD), peerN (mask h r) d < nD := by decide +kernel

/-- The partner of device `d` in round `r` of half `h`. -/
def peer (h : Fin 2) (r : Fin 4) (d : Dev nD) : Dev nD := ⟨peerN (mask h r) d, peerN_lt h r d⟩

/-- Where chunk `(h, r, ch)` of a scratch buffer starts. -/
abbrev offs (h : Fin 2) (r ch : Fin 4) : Fin 5 → Nat := ![h.val, r.val, ch.val, 0, 0]
theorem offs_inb : ∀ (h : Fin 2) (r ch : Fin 4) (a), offs h r ch a + S1x1x1x64x256.size a ≤ S2x4x4x64x256.size a := by decide

/-- The rectangle of a scratch buffer that is chunk `(h, r, ch)`. -/
abbrev slotRect (h : Fin 2) (r ch : Fin 4) : Rect S2x4x4x64x256 :=
  Rect.unit (s := S2x4x4x64x256) (offs h r ch) S1x1x1x64x256.size (offs_inb h r ch)
theorem slot_words : ∀ (h : Fin 2) (r ch : Fin 4), (slotRect h r ch).WholeWords (EltTy.packing .bf16) := by decide
theorem slot_packed : ∀ (h : Fin 2) (r ch : Fin 4), (slotRect h r ch).PackedRows (EltTy.packing .bf16) := by decide

/-- The first row of chunk `ch` of half `h` in the output. -/
abbrev row0 (h : Fin 2) (ch : Fin 4) : Nat := h.val * 256 + ch.val * 64
theorem rows_inb : ∀ (h : Fin 2) (ch : Fin 4) (a), (![row0 h ch, 0] : Fin 2 → Nat) a + S64x256.size a ≤ S512x256.size a := by decide
/-- The rows of the output that are chunk `ch` of half `h`. -/
abbrev rowRect (h : Fin 2) (ch : Fin 4) : Rect S512x256 :=
  Rect.unit (s := S512x256) ![row0 h ch, 0] S64x256.size (rows_inb h ch)
theorem rows_packed : ∀ (h : Fin 2) (ch : Fin 4), (rowRect h ch).PackedRows (EltTy.packing .bf16) := by decide
theorem rows_slices : ∀ (h : Fin 2) (ch : Fin 4), S512x256.Slices ![row0 h ch, 0] S64x256 := by decide

theorem sem_inb : ∀ (h : Fin 2) (r ch : Fin 4) (a), (![h.val, r.val, ch.val] : Fin 3 → Nat) a + S1x1x1.size a ≤ S2x4x4.size a := by decide
/-- Semaphore `(h, r, ch)` of an array of them. -/
abbrev semOf (s : DmaSems sig S2x4x4) (h : Fin 2) (r ch : Fin 4) : DmaSems sig S_ :=
  (s.slice (Rect.unit (s := S2x4x4) ![h.val, r.val, ch.val] S1x1x1.size (sem_inb h r ch))).squeeze S_ squeezes_S1x1x1_S_
/-- Chunk `(h, r, ch)` of a scratch buffer, as a block of 64 rows. -/
abbrev slotOf (a : Memref sig .tc .vmem S2x4x4x64x256 .bf16) (h : Fin 2) (r ch : Fin 4) : Memref sig .tc .vmem S64x256 .bf16 :=
  (a.slice (slotRect h r ch) (fun _ => rfl)).squeeze S64x256 squeezes_S1x1x1x64x256_S64x256

/-- The device's own product, in bf16. -/
abbrev product (x : Vec F S512x256 .bf16) (w : Vec F S256x256 .bf16) : FVec F S512x256 .bf16 := k0_pay1 x w
/-- Chunk `ch` of half `h` of the product. -/
abbrev firstPay (h : Fin 2) (ch : Fin 4) (p : FVec F S512x256 .bf16) : FVec F S1x1x1x64x256 .bf16 :=
  shapeCast S1x1x1x64x256 (extractStridedSlice S64x256 ![row0 h ch, 0] p (rows_slices h ch)) shapeCasts_S64x256_S1x1x1x64x256
/-- The sum of two chunks, as a block of rows. -/
abbrev lastPay (v w : Vec F S1x1x1x64x256 .bf16) : FVec F S64x256 .bf16 :=
  addf (shapeCast S64x256 v shapeCasts_S1x1x1x64x256_S64x256) (shapeCast S64x256 w shapeCasts_S1x1x1x64x256_S64x256)
/-- The sum of two chunks, as a chunk. -/
abbrev nextPay (v w : Vec F S1x1x1x64x256 .bf16) : FVec F S1x1x1x64x256 .bf16 :=
  shapeCast S1x1x1x64x256 (lastPay v w) shapeCasts_S64x256_S1x1x1x64x256

/-- The programs of a TensorCore of this module. -/
abbrev P (F : FTy → Type) [FloatOps F] : Type 1 := Prog (TpuEff nD τ sig (Elt F) Λ₀ .tc) PUnit

/-- One step per element of a list, in order, then `k`. -/
def steps {α : Type} (l : List α) (f : α → P F → P F) (k : P F) : P F := l.foldr f k

/-- Every (chunk, half), in the kernel's order. -/
def chunks : List (Fin 4 × Fin 2) := [(0, 0), (0, 1), (1, 0), (1, 1), (2, 0), (2, 1), (3, 0), (3, 1)]
/-- Every (round, chunk, half) with the round in `rs`, in the kernel's order. -/
def rounds (rs : List (Fin 4)) : List (Fin 4 × Fin 4 × Fin 2) := rs.flatMap fun r => chunks.map fun x => (r, x.1, x.2)

/-- The semaphore on which the partners announce themselves. -/
abbrev barSem : Sems sig S_ := SemArray.scalar (sig.barrier 0 rfl)

/-- Tell the partner of each mask that this device is here. -/
def signalStep (d : Dev nD) (i : Fin 4) (k : P F) : P F :=
  .op (.semSignal (peer 0 i d, .tc) barSem.sem (1#32).toInt) fun _ => k

/-- Put a chunk of the product in its place for sending. -/
def fillStep (arg6 : Memref sig .tc .vmem S2x4x4x64x256 .bf16) (harg6 : arg6.IsWhole) (p : FVec F S512x256 .bf16)
    (x : Fin 4 × Fin 2) (k : P F) : P F :=
  .op (.load arg6 (slotRect x.2 0 x.1).toLoadRect (View.loadsAt_vmem h_S1x1x1x64x256)) fun _ =>
  .op (.store arg6 (slotRect x.2 0 x.1) (firstPay x.2 x.1 p) Finset.univ
    (View.stores_vmem h_S1x1x1x64x256 (harg6.storeExact_slice rfl _ (slot_packed x.2 0 x.1)) (fun _ => rfl)) (.inl rfl)) fun _ => k

/-- Send chunk `(h, r, ch)` to the partner of round `r`. -/
def sendStep (arg6 : Memref sig .tc .vmem S2x4x4x64x256 .bf16) (harg6 : arg6.IsWhole) (arg7 : Memref sig .tc .vmem S2x4x4x64x256 .bf16)
    (harg7 : arg7.IsWhole) (arg8 arg9 : DmaSems sig S2x4x4) (d : Dev nD) (h : Fin 2) (r ch : Fin 4) (k : P F) : P F :=
  .op (.enqueueDma (slotOf arg6 h r ch) (.remote (Dev.tc (peer h r d)) (slotOf arg7 h r ch) (.dma (semOf arg8 h r ch).sem))
    (.dma (semOf arg9 h r ch).sem) ((harg6.wordExact_slice rfl _ (slot_words h r ch)).reshape _ _)
    ((harg7.wordExact_slice rfl _ (slot_words h r ch)).reshape _ _) ⟨⟨rfl, Or.inl rfl⟩, trivial⟩) fun _ => k

/-- Wait for the partner's chunk of round `r`, and read it together with this device's own. -/
def takeStep (arg6 : Memref sig .tc .vmem S2x4x4x64x256 .bf16) (harg6 : arg6.IsWhole) (arg7 : Memref sig .tc .vmem S2x4x4x64x256 .bf16)
    (harg7 : arg7.IsWhole) (arg9 : DmaSems sig S2x4x4) (h : Fin 2) (r ch : Fin 4)
    (k : Vec F S1x1x1x64x256 .bf16 → Vec F S1x1x1x64x256 .bf16 → P F) : P F :=
  .op (.waitDma2 (semOf arg9 h r ch).sem (slotOf arg6 h r ch) (slotOf arg7 h r ch)
    ((harg6.wordExact_slice rfl _ (slot_words h r ch)).reshape _ _) ((harg7.wordExact_slice rfl _ (slot_words h r ch)).reshape _ _)) fun _ =>
  .op (.load arg6 (slotRect h r ch).toLoadRect (View.loadsAt_vmem h_S1x1x1x64x256)) fun v =>
  .op (.load arg7 (slotRect h r ch).toLoadRect (View.loadsAt_vmem h_S1x1x1x64x256)) fun w => k v w

/-- Take the chunk of round `q`, put the sum in its place for sending in round `r`, and send it. -/
def passStep (arg6 : Memref sig .tc .vmem S2x4x4x64x256 .bf16) (harg6 : arg6.IsWhole) (arg7 : Memref sig .tc .vmem S2x4x4x64x256 .bf16)
    (harg7 : arg7.IsWhole) (arg8 arg9 : DmaSems sig S2x4x4) (d : Dev nD) (q r : Fin 4) (x : Fin 4 × Fin 2) (k : P F) : P F :=
  takeStep arg6 harg6 arg7 harg7 arg9 x.2 q x.1 fun v w =>
  .op (.load arg6 (slotRect x.2 r x.1).toLoadRect (View.loadsAt_vmem h_S1x1x1x64x256)) fun _ =>
  .op (.store arg6 (slotRect x.2 r x.1) (nextPay v w) Finset.univ
    (View.stores_vmem h_S1x1x1x64x256 (harg6.storeExact_slice rfl _ (slot_packed x.2 r x.1)) (fun _ => rfl)) (.inl rfl)) fun _ =>
  sendStep arg6 harg6 arg7 harg7 arg8 arg9 d x.2 r x.1 k

/-- Take the chunk of the last round and put the sum in its rows of the output. -/
def outStep (arg2 : Memref sig .tc .vmem S512x256 .bf16) (harg2 : arg2.IsWhole) (arg6 : Memref sig .tc .vmem S2x4x4x64x256 .bf16)
    (harg6 : arg6.IsWhole) (arg7 : Memref sig .tc .vmem S2x4x4x64x256 .bf16) (harg7 : arg7.IsWhole) (arg9 : DmaSems sig S2x4x4)
    (x : Fin 4 × Fin 2) (k : P F) : P F :=
  takeStep arg6 harg6 arg7 harg7 arg9 x.2 3 x.1 fun v w =>
  .op (.load arg2 (rowRect x.2 x.1).toLoadRect (View.loadsAt_vmem h_S64x256)) fun _ =>
  .op (.store arg2 (rowRect x.2 x.1) (lastPay v w) Finset.univ
    (View.stores_vmem h_S64x256 (harg2.storeExact_slice rfl _ (rows_packed x.2 x.1)) (fun _ => rfl)) (.inl rfl)) fun _ => k

/-- Wait until chunk `(h, r, ch)` has left. -/
def drainStep (arg6 : Memref sig .tc .vmem S2x4x4x64x256 .bf16) (harg6 : arg6.IsWhole) (arg7 : Memref sig .tc .vmem S2x4x4x64x256 .bf16)
    (harg7 : arg7.IsWhole) (arg8 : DmaSems sig S2x4x4) (x : Fin 4 × Fin 4 × Fin 2) (k : P F) : P F :=
  .op (.waitDma2 (semOf arg8 x.2.2 x.1 x.2.1).sem (slotOf arg7 x.2.2 x.1 x.2.1) (slotOf arg6 x.2.2 x.1 x.2.1)
    ((harg7.wordExact_slice rfl _ (slot_words x.2.2 x.1 x.2.1)).reshape _ _)
    ((harg6.wordExact_slice rfl _ (slot_words x.2.2 x.1 x.2.1)).reshape _ _)) fun _ => k

/-- Semaphore `i` of the two that the local copies complete on. -/
theorem in_inb : ∀ (i : Fin 2) (a), (![i.val] : Fin 1 → Nat) a + S1.size a ≤ S2.size a := by decide
abbrev inSem (s : DmaSems sig S2) (i : Fin 2) : DmaSems sig S_ :=
  (s.slice (Rect.unit (s := S2) ![i.val] S1.size (in_inb i))).squeeze S_ squeezes_S1_S_

/-- The whole body, its steps by index. -/
def body (arg0 : Memref sig .tc .hbm S512x256 .bf16) (harg0 : arg0.IsWhole) (arg1 : Memref sig .tc .hbm S256x256 .bf16) (harg1 : arg1.IsWhole)
    (arg2 : Memref sig .tc .vmem S512x256 .bf16) (harg2 : arg2.IsWhole) (arg3 : Memref sig .tc .vmem S512x256 .bf16) (harg3 : arg3.IsWhole)
    (arg4 : Memref sig .tc .vmem S256x256 .bf16) (harg4 : arg4.IsWhole) (arg5 : DmaSems sig S2)
    (arg6 : Memref sig .tc .vmem S2x4x4x64x256 .bf16) (harg6 : arg6.IsWhole) (arg7 : Memref sig .tc .vmem S2x4x4x64x256 .bf16)
    (harg7 : arg7.IsWhole) (arg8 arg9 : DmaSems sig S2x4x4) : P F :=
  .op .deviceId fun d =>
  steps [0, 1, 2, 3] (signalStep d) <|
  .op (.enqueueDma arg0 (.here arg3) (.dma (inSem arg5 0).sem) harg0.wordExact harg3.wordExact ⟨Or.inl rfl, trivial⟩) fun _ =>
  .op (.enqueueDma arg1 (.here arg4) (.dma (inSem arg5 1).sem) harg1.wordExact harg4.wordExact ⟨Or.inl rfl, trivial⟩) fun _ =>
  .op (.waitDma2 (inSem arg5 0).sem arg0 arg3 harg0.wordExact harg3.wordExact) fun _ =>
  .op (.waitDma2 (inSem arg5 1).sem arg1 arg4 harg1.wordExact harg4.wordExact) fun _ =>
  .op (.load arg3 (Rect.unit (s := S512x256) ![0, 0] S512x256.size inb_S512x256_S512x256_0_0).toLoadRect (View.loadsAt_vmem h_S512x256)) fun x =>
  .op (.load arg4 (Rect.unit (s := S256x256) ![0, 0] S256x256.size inb_S256x256_S256x256_0_0).toLoadRect (View.loadsAt_vmem h_S256x256)) fun w =>
  steps chunks (fillStep arg6 harg6 (product x w)) <|
  .op (.semWait barSem.sem (4#32).toInt) fun _ =>
  steps chunks (fun x => sendStep arg6 harg6 arg7 harg7 arg8 arg9 d x.2 0 x.1) <|
  steps chunks (passStep arg6 harg6 arg7 harg7 arg8 arg9 d 0 1) <|
  steps chunks (passStep arg6 harg6 arg7 harg7 arg8 arg9 d 1 2) <|
  steps chunks (passStep arg6 harg6 arg7 harg7 arg8 arg9 d 2 3) <|
  steps chunks (outStep arg2 harg2 arg6 harg6 arg7 harg7 arg9) <|
  steps (rounds [0, 1, 2, 3]) (drainStep arg6 harg6 arg7 harg7 arg8) (.ret ⟨⟩)

set_option maxRecDepth 100000 in
set_option maxHeartbeats 4000000 in
/-- The printed body is the body written here. -/
theorem cc0_body_eq : cc0_body (F := F) = body (F := F) := rfl

end Cert.Butterfly

end
-- ==== Proof.Contents.lean ====
/-
# What the buffers hold

Each device first multiplies its own rows; chunk by chunk the devices then add their partners' sums. This module says
which values stand where: the chunk a device has after `r` rounds, the two scratch buffers as wholes made of those
chunks, and the output. It also says which elements of a buffer a chunk is.
-/
module

public import proofs.«01_k».proof.Proof.Program

@[expose] public section

noncomputable section

namespace Cert.Butterfly

open Cert.KernelIdeal Cert.KernelIdeal.Gen
open Idealize.ShloMosaic Idealize.ShloMosaic.TcCoe Idealize.SL.Sem

variable {F : FTy → Type} [FloatOps F]

/-! ## Partners -/

/-- A partner's partner is the device itself. -/
theorem peer_peer : ∀ (h : Fin 2) (r : Fin 4) (c : Dev nD), peer h r (peer h r c) = c := by decide +kernel
/-- The round in which half `h` meets the partner that half 0 meets in round `i`. -/
def turn (h : Fin 2) (i : Fin 4) : Fin 4 := (![i, i + 2] : Fin 2 → Fin 4) h
theorem turn_turn : ∀ (h : Fin 2) (i : Fin 4), turn h (turn h i) = i := by decide
theorem peer_turn : ∀ (h : Fin 2) (i : Fin 4) (c : Dev nD), peer h (turn h i) c = peer 0 i c := by decide +kernel
/-- The four partners of a device are four devices. -/
theorem peer_inj : ∀ (h : Fin 2) (i j : Fin 4) (c : Dev nD), peer h i c = peer h j c → i = j := by decide +kernel

/-- A chunk's place: half, round, chunk. -/
abbrev X : Type := Fin 2 × Fin 4 × Fin 4

/-- The partner that chunk `x` goes to and comes from. -/
abbrev peerX (x : X) (c : Dev nD) : Dev nD := peer x.1 x.2.1 c
theorem peerX_peerX (x : X) (c : Dev nD) : peerX x (peerX x c) = c := peer_peer _ _ _

/-! ## Values -/

/-- The chunk that device `c` has after `r` rounds, each device's product being `p`. -/
def sumAt (p : Dev nD → FVec F S512x256 .bf16) (h : Fin 2) (ch : Fin 4) : ℕ → Dev nD → FVec F S1x1x1x64x256 .bf16
  | 0, c => firstPay h ch (p c)
  | r + 1, c => nextPay (sumAt p h ch r c) (sumAt p h ch r (peer h (Fin.ofNat 4 r) c))

theorem sumAt_zero (p : Dev nD → FVec F S512x256 .bf16) (h : Fin 2) (ch : Fin 4) (c : Dev nD) :
    sumAt p h ch 0 c = firstPay h ch (p c) := rfl
theorem sumAt_succ (p : Dev nD → FVec F S512x256 .bf16) (h : Fin 2) (ch : Fin 4) (r : ℕ) (c : Dev nD) :
    sumAt p h ch (r + 1) c = nextPay (sumAt p h ch r c) (sumAt p h ch r (peer h (Fin.ofNat 4 r) c)) := rfl

/-- The last sum of chunk `ch` of half `h`, as a block of rows. -/
def lastAt (p : Dev nD → FVec F S512x256 .bf16) (h : Fin 2) (ch : Fin 4) (c : Dev nD) : FVec F S64x256 .bf16 :=
  lastPay (sumAt p h ch 3 c) (sumAt p h ch 3 (peer h 3 c))

theorem lastAt_eq (p : Dev nD → FVec F S512x256 .bf16) (h : Fin 2) (ch : Fin 4) (c : Dev nD) :
    lastAt p h ch c = lastPay (sumAt p h ch 3 c) (sumAt p h ch 3 (peer h 3 c)) := rfl

/-- The place of row `i`, column `j` within a chunk. -/
def cix (i : Fin 64) (j : Fin 256) : S1x1x1x64x256.Idx := fun a => match a with
  | ⟨0, _⟩ => (0 : Fin 1) | ⟨1, _⟩ => (0 : Fin 1) | ⟨2, _⟩ => (0 : Fin 1) | ⟨3, _⟩ => i | ⟨4, _⟩ => j
/-- The place of row `i`, column `j` within a block of rows. -/
def bix (i : Fin 64) (j : Fin 256) : S64x256.Idx := fun a => match a with | ⟨0, _⟩ => i | ⟨1, _⟩ => j

/-- What stands in the sending scratch of device `c` when all its chunks are in place. -/
def sendAll (p : Dev nD → FVec F S512x256 .bf16) (c : Dev nD) : S2x4x4x64x256.Idx → Elt F .bf16 :=
  fun i => sumAt p (i 0) (i 2) (i 1 : Fin 4).val c (cix (i 3) (i 4))
/-- What stands in the receiving scratch of device `c` when all its partners' chunks have come. -/
def recvAll (p : Dev nD → FVec F S512x256 .bf16) (c : Dev nD) : S2x4x4x64x256.Idx → Elt F .bf16 :=
  fun i => sendAll p (peer (i 0) (i 1) c) i
/-- What stands in the output of device `c` at the end. -/
def outAll (p : Dev nD → FVec F S512x256 .bf16) (c : Dev nD) : S512x256.Idx → Elt F .bf16 :=
  fun i => lastAt p (Fin.ofNat 2 ((i 0 : Fin 512).val / 256)) (Fin.ofNat 4 ((i 0 : Fin 512).val / 64)) c
    (bix (Fin.ofNat 64 (i 0 : Fin 512).val) (i 1))

theorem outAll_apply (p : Dev nD → FVec F S512x256 .bf16) (c : Dev nD) (i : S512x256.Idx) :
    outAll p c i = lastAt p (Fin.ofNat 2 ((i 0 : Fin 512).val / 256)) (Fin.ofNat 4 ((i 0 : Fin 512).val / 64)) c
      (bix (Fin.ofNat 64 (i 0 : Fin 512).val) (i 1)) := rfl

/-! ## Places -/

/-- The elements of a scratch buffer that are chunk `x`. -/
abbrev slotSet (x : X) : Finset S2x4x4x64x256.Idx := (slotRect x.1 x.2.1 x.2.2).set
/-- The elements of the output that are chunk `ch` of half `h`. -/
abbrev rowSet (y : Fin 4 × Fin 2) : Finset S512x256.Idx := (rowRect y.2 y.1).set

theorem mem_slotSet {x : X} {i : S2x4x4x64x256.Idx} : i ∈ slotSet x ↔ (i 0 = x.1 ∧ i 1 = x.2.1 ∧ i 2 = x.2.2) := by
  rw [Rect.mem_set_unit]
  constructor
  · intro h
    have h0 := h 0; have h1 := h 1; have h2 := h 2
    simp [offs, Shape.size] at h0 h1 h2
    exact ⟨Fin.ext (by omega), Fin.ext (by omega), Fin.ext (by omega)⟩
  · rintro ⟨h0, h1, h2⟩ a
    have hlt := (i a).isLt
    fin_cases a <;> simp_all [offs, Shape.size]

theorem mem_rowSet {y : Fin 4 × Fin 2} {i : S512x256.Idx} :
    i ∈ rowSet y ↔ (i 0 : Fin 512).val / 64 = 4 * y.2.val + y.1.val := by
  rw [Rect.mem_set_unit]
  constructor
  · intro h
    have h0 := h 0
    simp [row0, Shape.size] at h0
    omega
  · intro h a
    have hlt := (i a).isLt
    fin_cases a
    · simp [row0, Shape.size] at hlt ⊢; omega
    · simp [row0, Shape.size] at hlt ⊢; omega

/-- Chunks are apart. -/
theorem slot_disj (x y : X) (h : x ≠ y) : Disjoint (slotSet x) (slotSet y) :=
  Finset.disjoint_left.mpr fun i hx hy => h <| by
    obtain ⟨a, b, d⟩ := mem_slotSet.mp hx; obtain ⟨a', b', d'⟩ := mem_slotSet.mp hy
    exact Prod.ext (a.symm.trans a') (Prod.ext (b.symm.trans b') (d.symm.trans d'))

/-- The chunks are the whole scratch buffer. -/
theorem slot_cover : Finset.univ.biUnion slotSet = (Finset.univ : Finset S2x4x4x64x256.Idx) :=
  Finset.eq_univ_of_forall fun i => Finset.mem_biUnion.mpr ⟨(i 0, i 1, i 2), Finset.mem_univ _, mem_slotSet.mpr ⟨rfl, rfl, rfl⟩⟩

/-- Blocks of rows are apart. -/
theorem row_disj (x y : Fin 4 × Fin 2) (h : x ≠ y) : Disjoint (rowSet x) (rowSet y) :=
  Finset.disjoint_left.mpr fun i hx hy => h <| by
    have a := mem_rowSet.mp hx; have b := mem_rowSet.mp hy
    exact Prod.ext (Fin.ext (by omega)) (Fin.ext (by omega))

/-- The blocks of rows are the whole output. -/
theorem row_cover : Finset.univ.biUnion rowSet = (Finset.univ : Finset S512x256.Idx) :=
  Finset.eq_univ_of_forall fun i => by
    have hi : (i 0 : Fin 512).val < 512 := (i 0).isLt
    refine Finset.mem_biUnion.mpr ⟨(⟨(i 0 : Fin 512).val / 64 % 4, by omega⟩, ⟨(i 0 : Fin 512).val / 256, by omega⟩), Finset.mem_univ _, mem_rowSet.mpr ?_⟩
    show _ = 4 * ((i 0 : Fin 512).val / 256) + (i 0 : Fin 512).val / 64 % 4
    omega

/-! ## The kernel's views of the buffers -/

abbrev sM : Memref sig .tc .vmem S2x4x4x64x256 .bf16 := Memref.whole cc0_scratch3
abbrev rM : Memref sig .tc .vmem S2x4x4x64x256 .bf16 := Memref.whole cc0_scratch4
abbrev oM : Memref sig .tc .vmem S512x256 .bf16 := Memref.whole cc0_stg0_0

abbrev sSlot (x : X) : Memref sig .tc .vmem S64x256 .bf16 := slotOf sM x.1 x.2.1 x.2.2
abbrev rSlot (x : X) : Memref sig .tc .vmem S64x256 .bf16 := slotOf rM x.1 x.2.1 x.2.2

theorem sSlot_set (x : X) : (sSlot x).view.set = slotSet x := (View.set_reshape _ _).trans (View.set_slice_whole _ _)
theorem rSlot_set (x : X) : (rSlot x).view.set = slotSet x := (View.set_reshape _ _).trans (View.set_slice_whole _ _)
theorem sAcc_set (x : X) : (sM.access (slotRect x.1 x.2.1 x.2.2)).set = slotSet x := View.set_slice_whole _ _
theorem rAcc_set (x : X) : (rM.access (slotRect x.1 x.2.1 x.2.2)).set = slotSet x := View.set_slice_whole _ _
theorem oAcc_set (y : Fin 4 × Fin 2) : (oM.access (rowRect y.2 y.1)).set = rowSet y := View.set_slice_whole _ _

variable (p : Dev nD → FVec F S512x256 .bf16)

/-- Where an element of a chunk stands in the scratch buffer. -/
theorem slot_emb (x : X) (j : S1x1x1x64x256.Idx) :
    let i : S2x4x4x64x256.Idx := (slotRect x.1 x.2.1 x.2.2).emb j
    i 0 = x.1 ∧ i 1 = x.2.1 ∧ i 2 = x.2.2 ∧ cix (i 3) (i 4) = j := by
  intro i
  obtain ⟨a, b, d⟩ := mem_slotSet.mp (show i ∈ slotSet x from by
    rw [slotSet, ← Rect.map_emb_univ]; exact Finset.mem_map_of_mem _ (Finset.mem_univ _))
  refine ⟨a, b, d, funext fun a => Fin.ext ?_⟩
  have hlt := (j a).isLt
  fin_cases a <;> simp [cix, i, Rect.emb_apply, offs] at hlt ⊢ <;> omega

/-- Where an element of a block of rows stands in the output. -/
theorem row_emb (y : Fin 4 × Fin 2) (j : S64x256.Idx) :
    let i : S512x256.Idx := (rowRect y.2 y.1).emb j
    Fin.ofNat 2 ((i 0 : Fin 512).val / 256) = y.2 ∧ Fin.ofNat 4 ((i 0 : Fin 512).val / 64) = y.1
      ∧ bix (Fin.ofNat 64 (i 0 : Fin 512).val) (i 1) = j := by
  intro i
  have hm := mem_rowSet.mp (show i ∈ rowSet y from by
    rw [rowSet, ← Rect.map_emb_univ]; exact Finset.mem_map_of_mem _ (Finset.mem_univ _))
  refine ⟨Fin.ext ?_, Fin.ext ?_, funext fun a => Fin.ext ?_⟩
  · show _ % 2 = _; omega
  · show _ % 4 = _; omega
  · have hlt := (j a).isLt
    fin_cases a <;> simp [bix, i, Rect.emb_apply, row0] at hlt ⊢ <;> omega

/-- A chunk of the full sending scratch is the device's sum of that round. -/
theorem read_send (c : Dev nD) (x : X) :
    sM.view.readAt (Elt F) (slotRect x.1 x.2.1 x.2.2).toLoadRect (sendAll p c) = sumAt p x.1 x.2.2 x.2.1.val c := by
  funext j
  obtain ⟨a, b, d, e⟩ := slot_emb x j
  show sendAll p c ((slotRect x.1 x.2.1 x.2.2).emb j) = _
  unfold sendAll
  rw [a, b, d, e]

/-- A chunk of the full receiving scratch is the partner's sum of that round. -/
theorem read_recv (c : Dev nD) (x : X) :
    rM.view.readAt (Elt F) (slotRect x.1 x.2.1 x.2.2).toLoadRect (recvAll p c) = sumAt p x.1 x.2.2 x.2.1.val (peerX x c) := by
  funext j
  obtain ⟨a, b, d, e⟩ := slot_emb x j
  show recvAll p c ((slotRect x.1 x.2.1 x.2.2).emb j) = _
  unfold recvAll sendAll
  rw [a, b, d, e]

/-- Storing the device's sum in its chunk makes that chunk what the full scratch has there. -/
theorem store_send (c : Dev nD) (x : X) (f : S2x4x4x64x256.Idx → Elt F .bf16) (w : FVec F S1x1x1x64x256 .bf16)
    (hw : w = sumAt p x.1 x.2.2 x.2.1.val c) (i : S2x4x4x64x256.Idx) (hi : i ∈ slotSet x) :
    (sM.access (slotRect x.1 x.2.1 x.2.2)).write (Elt F) f w Finset.univ i = sendAll p c i := by
  subst hw
  rw [slotSet, ← Rect.map_emb_univ] at hi
  obtain ⟨j, -, rfl⟩ := Finset.mem_map.mp hi
  obtain ⟨a, b, d, e⟩ := slot_emb x j
  refine (View.write_emb_of_mem (v := sM.access (slotRect x.1 x.2.1 x.2.2)) f _ (Finset.mem_univ j)).trans ?_
  show sumAt p x.1 x.2.2 x.2.1.val c j = sendAll p c ((slotRect x.1 x.2.1 x.2.2).emb j)
  unfold sendAll
  rw [a, b, d, e]

/-- A chunk sent to the partner makes the partner's chunk what the partner's full receiving scratch has there. -/
theorem land_recv (c : Dev nD) (x : X) (f : S2x4x4x64x256.Idx → Elt F .bf16) (i : S2x4x4x64x256.Idx) (hi : i ∈ slotSet x) :
    (rSlot x).view.write (Elt F) f ((sSlot x).view.read (Elt F) (sendAll p c)) Finset.univ i = recvAll p (peerX x c) i := by
  obtain ⟨a, b, d⟩ := mem_slotSet.mp hi
  rw [← rSlot_set] at hi
  obtain ⟨j, -, rfl⟩ := Finset.mem_map.mp hi
  refine (View.write_emb_of_mem (v := (rSlot x).view) f _ (Finset.mem_univ j)).trans ?_
  show sendAll p c ((rSlot x).view.emb j) = _
  unfold recvAll
  rw [a, b]
  exact congrArg (sendAll p · _) (peerX_peerX x c).symm

/-- Storing the last sum in its rows makes those rows what the finished output has there. -/
theorem store_out (c : Dev nD) (y : Fin 4 × Fin 2) (f : S512x256.Idx → Elt F .bf16) (w : FVec F S64x256 .bf16)
    (hw : w = lastAt p y.2 y.1 c) (i : S512x256.Idx) (hi : i ∈ rowSet y) :
    (oM.access (rowRect y.2 y.1)).write (Elt F) f w Finset.univ i = outAll p c i := by
  subst hw
  rw [rowSet, ← Rect.map_emb_univ] at hi
  obtain ⟨j, -, rfl⟩ := Finset.mem_map.mp hi
  obtain ⟨a, b, d⟩ := row_emb y j
  refine (View.write_emb_of_mem (v := oM.access (rowRect y.2 y.1)) f _ (Finset.mem_univ j)).trans ?_
  show lastAt p y.2 y.1 c j = outAll p c ((rowRect y.2 y.1).emb j)
  unfold outAll
  rw [a, b, d]

attribute [irreducible] sumAt lastAt sendAll recvAll outAll

end Cert.Butterfly

end
-- ==== Proof.Schedule.lean ====
/-
# The protocol

Every semaphore the kernel uses has one round. A device's barrier cell is raised by its four partners, each of which
hands over the chunks of its receiving scratch that this device will fill. The cell a chunk is sent on gives back half
of the chunk's share, and the cell a chunk arrives on hands the arrived chunk to its owner. The two cells of the local
copies give both buffers of the copy back.
-/
module

public import proofs.«01_k».proof.Proof.Contents
public import proofs.«01_k».proof.Proof.Gen.KernelIdeal.Launch
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds of the protocol, their duties named by `Fin 4`; -/
abbrev UB : Type := URounds (GSem nD τ sig) (Fin 4)
/-- beside those of the pipeline. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The launch's own semaphores: of the two local copies, of the chunks sent, of the chunks received. -/
abbrev Own : Type := Fin 2 ⊕ (X ⊕ X)
/-- The barrier semaphore and the own ones. -/
abbrev Cell : Type := Unit ⊕ Own
instance : DecidableEq Own := instDecidableEqSum
instance : DecidableEq Cell := instDecidableEqSum

def osem : Own → SemLoc sig
  | .inl i => .dma (inSem cc0_scratch2 i).sem
  | .inr (.inl x) => .dma (semOf cc0_scratch5 x.1 x.2.1 x.2.2).sem
  | .inr (.inr x) => .dma (semOf cc0_scratch6 x.1 x.2.1 x.2.2).sem
def csem : Cell → SemLoc sig
  | .inl _ => .reg barSem.sem
  | .inr k => osem k

abbrev barC : Cell := .inl ()
abbrev inC (i : Fin 2) : Cell := .inr (.inl i)
abbrev sendC (x : X) : Cell := .inr (.inr (.inl x))
abbrev recvC (x : X) : Cell := .inr (.inr (.inr x))

set_option maxRecDepth 100000 in
theorem osem_injective : Function.Injective osem := by
  have h : ∀ a b : Own, osem a = osem b → a = b := by decide +kernel
  exact fun a b => h a b

theorem csem_injective : Function.Injective csem := by
  intro a b h
  rcases a with ⟨⟩ | a <;> rcases b with ⟨⟩ | b
  · rfl
  · rcases b with b | b | b <;> exact absurd h (by simp [csem, osem])
  · rcases a with a | a | a <;> exact absurd h (by simp [csem, osem])
  · exact congrArg Sum.inr (osem_injective h)

/-- Cell `k` of device `c`. -/
abbrev kcell (ck : Dev nD × Cell) : GSem nD τ sig := ((ck.1 : Thread nD τ), csem ck.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-- Which of the cells a semaphore is, if any. -/
def kind (s : SemLoc sig) : Option Cell := Function.partialInv csem s
theorem kind_csem (k : Cell) : kind (csem k) = some k := Function.partialInv_left csem_injective k
/-- A semaphore that is none of them has no kind. -/
theorem kind_none (s : SemLoc sig) (h : ∀ k, csem k ≠ s) : kind s = none := by
  unfold kind Function.partialInv
  exact dif_neg fun ⟨k, hk⟩ => h k hk

/-- What one chunk's transfer counts for. -/
abbrev N : ℕ := (rSlot (0, 0, 0)).view.dmaCredit
theorem N_pos : 0 < N := View.dmaCredit_pos _ (by decide)
/-- What each local copy counts for. -/
def inN : Fin 2 → ℕ
  | 0 => (Memref.whole (sig := sig) (κ := .tc) cc0_scratch0).view.dmaCredit
  | 1 => (Memref.whole (sig := sig) (κ := .tc) cc0_scratch1).view.dmaCredit

/-- What one payment into a cell counts for. -/
def amt : Cell → ℕ
  | .inl _ => 1
  | .inr (.inl i) => inN i
  | .inr (.inr _) => N
theorem amt_pos : ∀ k, 0 < amt k
  | .inl _ => Nat.one_pos
  | .inr (.inl i) => by
    fin_cases i
    · exact View.dmaCredit_pos _ (by decide)
    · exact View.dmaCredit_pos _ (by decide)
  | .inr (.inr _) => N_pos

/-- The payments into a cell. -/
def dutySet : Cell → Finset (Fin 4)
  | .inl _ => Finset.univ
  | .inr _ => {0}

/-! ## The payloads -/

variable (m : (ℓ : Loc nD τ sig) → Buf (Elt F) ℓ)

/-- The rows of device `c`, -/
def tX (c : Dev nD) : Vec F S512x256 .bf16 := m ((c : Thread nD τ).loc main_arg0)
/-- its copy of the weights, -/
def wX (c : Dev nD) : Vec F S256x256 .bf16 := m ((c : Thread nD τ).loc main_arg1)
/-- and its product. -/
def prod (c : Dev nD) : FVec F S512x256 .bf16 := product (tX m c) (wX m c)

/-- Chunk `x` of the sending scratch of `c`, at a share and contents; -/
def sPts (c : Dev nD) (x : X) (q : PosShare TreeShare) (f : S2x4x4x64x256.Idx → Elt F .bf16) : sProp 𝕄 :=
  (((c : Thread nD τ).loc cc0_scratch3) ↦[slotSet x]{q} f)
/-- of the receiving scratch, fully owned; -/
def rPts (c : Dev nD) (x : X) (f : S2x4x4x64x256.Idx → Elt F .bf16) : sProp 𝕄 :=
  (((c : Thread nD τ).loc cc0_scratch4) ↦[slotSet x]{fullShare} f)
/-- and a block of rows of the output. -/
def oPts (c : Dev nD) (y : Fin 4 × Fin 2) (f : S512x256.Idx → Elt F .bf16) : sProp 𝕄 :=
  (((c : Thread nD τ).loc cc0_stg0_0) ↦[rowSet y]{fullShare} f)

/-- What the partner of round `i` of half 0 hands device `c`: every chunk of its receiving scratch that `c` fills. -/
def barPay (c : Dev nD) (i : Fin 4) : sProp 𝕄 :=
  bigSep Finset.univ fun y : Fin 2 × Fin 4 => iprop(∃ f, rPts (peer 0 i c) (y.1, turn y.1 i, y.2) f)
/-- What a local copy gives back: the copy and the original. -/
def inPay (c : Dev nD) : Fin 2 → sProp 𝕄
  | 0 => iprop((((c : Thread nD τ).loc cc0_scratch0) ↦{fullShare} (tX m c)) ∗ (((c : Thread nD τ).loc main_arg0) ↦{fullShare} (tX m c)))
  | 1 => iprop((((c : Thread nD τ).loc cc0_scratch1) ↦{fullShare} (wX m c)) ∗ (((c : Thread nD τ).loc main_arg1) ↦{fullShare} (wX m c)))

/-- What a payment into cell `k` of device `c` hands over. -/
def pay (c : Dev nD) : Cell → Fin 4 → sProp 𝕄
  | .inl _, i => barPay c i
  | .inr (.inl i), _ => inPay m c i
  | .inr (.inr (.inl x)), _ => sPts c x fullShare.right (sendAll (prod m) c)
  | .inr (.inr (.inr x)), _ => rPts c x (recvAll (prod m) c)

instance pay_storable (c : Dev nD) (k : Cell) (i : Fin 4) : BI.Storable (upEmb : UEmb _ 𝕄) (pay m c k i) := by
  rcases k with _ | i | x | x
  · show BI.Storable _ (barPay c i); unfold barPay rPts; infer_instance
  · show BI.Storable _ (inPay m c i)
    fin_cases i
    · show BI.Storable _ (inPay m c 0); unfold inPay; infer_instance
    · show BI.Storable _ (inPay m c 1); unfold inPay; infer_instance
  · show BI.Storable _ (sPts c x _ _); unfold sPts; infer_instance
  · show BI.Storable _ (rPts c x _); unfold rPts; infer_instance

/-! ## The schedule -/

/-- One round for every cell of a TensorCore, none for any other semaphore. -/
def sched : Rounds.Schedule (GSem nD τ sig) (Fin 4) 𝕄 where
  duties g r := if r = 0 ∧ g.1.2 = .tc then (match kind g.2 with | some k => dutySet k | none => ∅) else ∅
  unitless _ := False
  amount g _ _ := match kind g.2 with | some k => amt k | none => 1
  payload g _ d := match kind g.2 with | some k => pay m g.1.1 k d | none => iprop(emp)
  amount_pos g _ _ _ := by
    cases kind g.2 with
    | none => exact Nat.one_pos
    | some k => exact amt_pos k

instance sched_payload_storable (g : GSem nD τ sig) (r : ℕ) (d : Fin 4) :
    BI.Storable (upEmb : UEmb _ 𝕄) ((sched (F := F) m).payload g r d) := by
  show BI.Storable upEmb (match kind g.2 with | some k => pay m g.1.1 k d | none => iprop(emp))
  split <;> infer_instance

section Tables
variable (c : Dev nD) (k : Cell)

theorem duties_eq : (sched (F := F) m).duties (kcell (c, k)) 0 = dutySet k := by
  dsimp only [sched]; rw [if_pos ⟨rfl, rfl⟩, kind_csem]
theorem duties_later (g : GSem nD τ sig) : ∀ r, 1 ≤ r → (sched (F := F) m).duties g r = ∅ :=
  fun r hr => by dsimp only [sched]; rw [if_neg fun h => by omega]
theorem amount_eq (d : Fin 4) : (sched (F := F) m).amount (kcell (c, k)) 0 d = amt k := by
  dsimp only [sched]; rw [kind_csem]
theorem payload_eq (d : Fin 4) : (sched (F := F) m).payload (kcell (c, k)) 0 d = pay m c k d := by
  dsimp only [sched]; rw [kind_csem]
theorem expect_bar : (sched (F := F) m).expect (kcell (c, barC)) 0 = 4 := by
  unfold Schedule.expect Schedule.amountOf
  rw [duties_eq, Finset.sum_congr rfl fun d _ => amount_eq m c barC d, Finset.sum_const]; rfl
theorem expect_own (k : Own) : (sched (F := F) m).expect (kcell (c, .inr k)) 0 = amt (.inr k) := by
  unfold Schedule.expect Schedule.amountOf
  rw [duties_eq]; show Finset.sum {0} _ = _; rw [Finset.sum_singleton, amount_eq]
/-- All that the barrier cell's round hands over; -/
theorem rest_bar : bigSep ((sched (F := F) m).duties (kcell (c, barC)) 0 \ ∅) (fun d => (sched (F := F) m).payload (kcell (c, barC)) 0 d)
    = bigSep Finset.univ (barPay (F := F) c) := by
  rw [Finset.sdiff_empty, duties_eq]
  exact bigSep_congr fun d _ => payload_eq m c barC d
/-- and all that another cell's round does. -/
theorem rest_own (k : Own) : bigSep ((sched (F := F) m).duties (kcell (c, .inr k)) 0 \ ∅) (fun d => (sched (F := F) m).payload (kcell (c, .inr k)) 0 d)
    = pay m c (.inr k) 0 := by
  rw [Finset.sdiff_empty, duties_eq]; show bigSep {0} _ = _; rw [bigSep_singleton, payload_eq]

end Tables

/-! ## What is owed, and the levels -/

/-- The payments in a list, owed. -/
def debt (l : List (Dev nD × Cell)) : CellTallies nD τ sig Unit := (l.map fun g => tallyAt (kcell g) () (amt g.2)).sum
theorem debt_nil : debt [] = 0 := rfl
theorem debt_cons (g : Dev nD × Cell) (l) : debt (g :: l) = debt l + tallyAt (kcell g) () (amt g.2) := by
  unfold debt; rw [List.map_cons, List.sum_cons, add_comm]

theorem debt_apply (l : List (Dev nD × Cell)) (g : Dev nD × Cell) (u : Unit) : debt l (kcell g) u = l.countP (fun a => decide (a = g)) * amt g.2 := by
  induction l with
  | nil => rw [List.countP_nil, Nat.zero_mul]; rfl
  | cons a l ih =>
    rw [debt_cons, Pi.add_apply, Finsupp.add_apply, ih, tallyAt_apply, List.countP_cons]
    by_cases h : a = g
    · subst h; rw [if_pos ⟨rfl, rfl⟩, if_pos (decide_eq_true rfl), Nat.add_mul, Nat.one_mul]
    · rw [if_neg (fun h' => h (kcell_injective h'.1).symm), if_neg (fun h' => h (of_decide_eq_true h'))]; rfl

theorem debt_pos {l : List (Dev nD × Cell)} {g : GSem nD τ sig} {u : Unit} (h : 0 < debt l g u) : ∃ a ∈ l, g = kcell a := by
  induction l with
  | nil => exact absurd h (Nat.lt_irrefl 0)
  | cons a l ih =>
    by_cases hg : g = kcell a
    · exact ⟨a, List.mem_cons_self, hg⟩
    · rw [debt_cons, Pi.add_apply, Finsupp.add_apply, tallyAt_apply, if_neg (fun h' => hg h'.1)] at h
      obtain ⟨b, hb, e⟩ := ih h
      exact ⟨b, List.mem_cons_of_mem _ hb, e⟩

/-- A cell's level: a wait on it may be owing payments into cells of higher levels only. -/
def lvC : Cell → ℕ
  | .inl _ => 1
  | .inr (.inl _) => 0
  | .inr (.inr (.inl _)) => 0
  | .inr (.inr (.inr x)) => 2 + x.2.1.val

def L (g : GSem nD τ sig) : Finset Unit := if g.1.2 = .tc then {()} else ∅
def lv (g : GSem nD τ sig) (_ : Unit) : ℕ := match kind g.2 with | some k => lvC k | none => 0
theorem L_of_ne (g : GSem nD τ sig) (h : g.1.2 ≠ .tc) : L g = ∅ := if_neg h
theorem L_tc (c : Dev nD) (sm : SemLoc sig) : L ((c : Thread nD τ), sm) = {()} := if_pos rfl
theorem lv_cell (ck : Dev nD × Cell) (u : Unit) : lv (kcell ck) u = lvC ck.2 := by unfold lv; rw [kind_csem]

/-- The levels, as a fact. -/
@[irreducible] def levs : sProp 𝕄 := levAts L lv
instance levs_persistent : BI.Persistent (levs (F := F)) := by unfold levs; infer_instance

/-- A device may wait where every payment it owes is at a higher level. -/
theorem mayWait (c : Dev nD) (sm : SemLoc sig) (n : ℕ) (hn : lv ((c : Thread nD τ), sm) () ≤ n) (l : List (Dev nD × Cell))
    (hl : ∀ a ∈ l, n < lvC a.2) : levs (F := F) ⊢ MayWait (c : Thread nD τ) sm () (debt l) := by
  unfold levs
  exact MayOwe.of_cut (L := L) (lev := lv) n (fun p hp => by rw [Finset.mem_singleton.mp hp, L_tc]; exact Finset.mem_singleton_self _)
    (fun g u hg => by obtain ⟨a, -, rfl⟩ := debt_pos hg; exact Finset.mem_singleton_self _)
    (fun p hp => by rw [Finset.mem_singleton.mp hp]; exact hn)
    (fun g u hg => by obtain ⟨a, ha, rfl⟩ := debt_pos hg; rw [lv_cell]; exact hl a ha)

/-- What a device owes, whatever it has waited on. -/
def owing (c : Dev nD) (l : List (Dev nD × Cell)) : sProp 𝕄 := iprop(∃ W, owes (c : Thread nD τ) (debt l) W)

/-- The payments of device `c` into its partners' barrier cells, -/
def barDue (c : Dev nD) (i : Fin 4) : Dev nD × Cell := (peer 0 i c, barC)
/-- the place of a chunk from its round and its number and half, -/
abbrev at' (r : Fin 4) (y : Fin 4 × Fin 2) : X := (y.2, r, y.1)
/-- the payments into the cells its partners receive on in round `r`, -/
def sendDue (c : Dev nD) (r : Fin 4) (y : Fin 4 × Fin 2) : Dev nD × Cell := (peer y.2 r c, recvC (at' r y))
/-- those of the rounds in `rs`, -/
def sendDues (c : Dev nD) (rs : List (Fin 4)) : List (Dev nD × Cell) := rs.flatMap fun r => chunks.map (sendDue c r)
/-- and all of them. -/
def dues (c : Dev nD) : List (Dev nD × Cell) := [0, 1, 2, 3].map (barDue c) ++ sendDues c [0, 1, 2, 3]

theorem sendDues_cons (c : Dev nD) (r : Fin 4) (rs) : sendDues c (r :: rs) = chunks.map (sendDue c r) ++ sendDues c rs := rfl
/-- Payments of later rounds are at higher levels. -/
theorem sendDues_lv {c : Dev nD} {rs : List (Fin 4)} {n : ℕ} (h : ∀ r ∈ rs, n < 2 + r.val) : ∀ a ∈ sendDues c rs, n < lvC a.2 := by
  intro a ha
  obtain ⟨r, hr, ha⟩ := List.mem_flatMap.mp ha
  obtain ⟨y, -, rfl⟩ := List.mem_map.mp ha
  exact h r hr
theorem sendDue_lv {c : Dev nD} {r : Fin 4} {n : ℕ} (h : n < 2 + r.val) (l : List (Fin 4 × Fin 2)) : ∀ a ∈ l.map (sendDue c r), n < lvC a.2 := by
  intro a ha
  obtain ⟨y, -, rfl⟩ := List.mem_map.mp ha
  exact h
theorem dues_lv {c : Dev nD} : ∀ a ∈ dues c, 0 < lvC a.2 := by
  intro a ha
  rcases List.mem_append.mp ha with h | h
  · obtain ⟨y, -, rfl⟩ := List.mem_map.mp h; exact Nat.one_pos
  · exact sendDues_lv (fun r _ => by omega) a h

/-! ## What everyone knows -/

/-- Every cell's invariant, under the names `K`, and that every cell is at its round; the levels. -/
def known (K : Dev nD × Cell → ℕ) : sProp 𝕄 :=
  iprop((bigSep Finset.univ fun ck : Dev nD × Cell => cellInv ER (sched m) (K ck) (kcell ck))
    ∗ (bigSep Finset.univ fun ck : Dev nD × Cell => reached ER (kcell ck) 0) ∗ levs (F := F))
instance known_persistent (K : Dev nD × Cell → ℕ) : BI.Persistent (known (F := F) m K) := by unfold known; infer_instance

theorem all_inv (K : Dev nD × Cell → ℕ) (ck : Dev nD × Cell) :
    (bigSep Finset.univ fun ck : Dev nD × Cell => (cellInv ER (sched m) (K ck) (kcell ck) : sProp 𝕄)) ⊢ cellInv ER (sched m) (K ck) (kcell ck) :=
  bigSep_elim (Finset.mem_univ ck)
theorem all_reached (ck : Dev nD × Cell) :
    (bigSep Finset.univ fun ck : Dev nD × Cell => (reached ER (kcell ck) 0 : sProp 𝕄)) ⊢ reached ER (kcell ck) 0 :=
  bigSep_elim (Finset.mem_univ ck)

theorem known_inv (K : Dev nD × Cell → ℕ) (ck : Dev nD × Cell) : known (F := F) m K ⊢ cellInv ER (sched m) (K ck) (kcell ck) := by
  unfold known
  iintro ⟨H, -, -⟩
  iapply (all_inv m K ck); iexact H
theorem known_reached (K : Dev nD × Cell → ℕ) (ck : Dev nD × Cell) : known (F := F) m K ⊢ reached ER (kcell ck) 0 := by
  unfold known
  iintro ⟨-, H, -⟩
  iapply (all_reached (F := F) ck); iexact H
theorem known_lev (K : Dev nD × Cell → ℕ) : known (F := F) m K ⊢ levs (F := F) := by
  unfold known
  iintro ⟨-, -, H⟩
  iexact H

end Cert.Butterfly

end
-- ==== Proof.Steps.lean ====
/-
# One step of each phase

What a device holds of a chunk at each phase of the kernel, and what each step of the body does to it.
-/
module

public import proofs.«01_k».proof.Proof.Schedule

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- The weakest precondition of a program run by the TensorCore of device `c`. -/
abbrev WP (c : Dev nD) (k : P F) (Q : PUnit → sProp 𝕄) : sProp 𝕄 :=
  wp frame (wpE (defs₀ (F := F)) 𝒱₀ (c : Thread nD τ) none) Set.univ k Q

/-- Steps over a list: `T` says what is carried from step to step, each element's step turns its `A` into its `B`. -/
theorem wp_steps {α : Type} (c : Dev nD) (Γ : sProp 𝕄) [BI.Persistent Γ] (T : List α → sProp 𝕄) (A B : α → sProp 𝕄)
    (f : α → P F → P F) (Q : PUnit → sProp 𝕄)
    (h : ∀ a l k, iprop(Γ ∗ T (a :: l) ∗ A a ∗ ((T l ∗ B a) -∗ WP c k Q)) ⊢ WP c (f a k) Q) (k : P F) :
    ∀ l, iprop(Γ ∗ T l ∗ bigSepL l A ∗ ((T [] ∗ bigSepL l B) -∗ WP c k Q)) ⊢ WP c (steps l f k) Q := by
  intro l
  induction l with
  | nil =>
    rw [show steps [] f k = k from rfl]
    iintro ⟨-, HT, -, Hk⟩
    iapply Hk
    isplitl [HT]; · iexact HT
    rw [bigSepL_nil]; iempintro
  | cons a l ih =>
    rw [bigSepL_cons', bigSepL_cons', show steps (a :: l) f k = f a (steps l f k) from rfl]
    iintro ⟨#HΓ, HT, ⟨Ha, Hl⟩, Hk⟩
    iapply (h a l (steps l f k))
    isplitr; · iexact HΓ
    isplitl [HT]; · iexact HT
    isplitl [Ha]; · iexact Ha
    iintro ⟨HT, Hb⟩
    iapply ih
    isplitr; · iexact HΓ
    isplitl [HT]; · iexact HT
    isplitl [Hl]; · iexact Hl
    iintro ⟨HT, Hl⟩
    iapply Hk
    isplitl [HT]; · iexact HT
    isplitl [Hb]; · iexact Hb
    iexact Hl

variable (m : (ℓ : Loc nD τ sig) → Buf (Elt F) ℓ) (K : Dev nD × Cell → ℕ)

/-! ## What a device holds of a chunk -/

/-- Before its round: both ends of its transfer to pay for, both cells to wait on, and the credit of what will come; -/
def pre (c : Dev nD) (x : X) : sProp 𝕄 :=
  iprop(atPos ER (kcell (c, sendC x)) 0 ∅ 0 ∗ atPos ER (kcell (c, recvC x)) 0 ∅ 0
    ∗ (dutyTok ER (kcell (c, sendC x)) 0 0 ∗ dutyTok ER (kcell (peerX x c, recvC x)) 0 0)
    ∗ cred (tallyAt (kcell (c, recvC x)) () N))
/-- its place for sending, not yet filled, -/
def free (c : Dev nD) (x : X) : sProp 𝕄 := iprop(∃ f, sPts c x fullShare f)
/-- or filled; -/
def filled (c : Dev nD) (x : X) : sProp 𝕄 := sPts c x fullShare (sendAll (prod m) c)
/-- the partner's place for receiving it. -/
def there (c : Dev nD) (x : X) : sProp 𝕄 := iprop(∃ f, rPts (peerX x c) x f)
/-- Once sent: half the share of the chunk, both cells still to wait on; -/
def sent (c : Dev nD) (x : X) : sProp 𝕄 :=
  iprop(atPos ER (kcell (c, sendC x)) 0 ∅ 0 ∗ atPos ER (kcell (c, recvC x)) 0 ∅ 0
    ∗ cred (tallyAt (kcell (c, recvC x)) () N) ∗ sPts c x fullShare.left (sendAll (prod m) c) ∗ cred (tallyAt (kcell (c, sendC x)) () N))
/-- once the partner's chunk has come; -/
def got (c : Dev nD) (x : X) : sProp 𝕄 :=
  iprop(atPos ER (kcell (c, sendC x)) 0 ∅ 0 ∗ atPos ER (kcell (c, recvC x)) 1 ∅ 0
    ∗ rPts c x (recvAll (prod m) c) ∗ sPts c x fullShare.left (sendAll (prod m) c) ∗ cred (tallyAt (kcell (c, sendC x)) () N))
/-- once this device's own chunk has left. -/
def over (c : Dev nD) (x : X) : sProp 𝕄 :=
  iprop(atPos ER (kcell (c, sendC x)) 1 ∅ 0 ∗ atPos ER (kcell (c, recvC x)) 1 ∅ 0
    ∗ rPts c x (recvAll (prod m) c) ∗ sPts c x fullShare (sendAll (prod m) c))

/-- A chunk's share is its two halves. -/
theorem sPts_halves (c : Dev nD) (x : X) (f) :
    sPts (F := F) c x fullShare f ⊣⊢ iprop(sPts c x fullShare.left f ∗ sPts c x fullShare.right f) := by
  unfold sPts
  exact pointsTo_share (by rw [PosShare.left_op_right]; exact Part.mem_some _)

/-! ## The kernel's own views of what it holds -/

abbrev sW : (sM : Memref sig .tc .vmem S2x4x4x64x256 .bf16).IsWhole := Memref.isWhole_whole _
abbrev rW : (rM : Memref sig .tc .vmem S2x4x4x64x256 .bf16).IsWhole := Memref.isWhole_whole _
abbrev oW : (oM : Memref sig .tc .vmem S512x256 .bf16).IsWhole := Memref.isWhole_whole _

theorem sPts_slot (c : Dev nD) (x : X) (q : PosShare TreeShare) (f) :
    sPts (F := F) c x q f = ((sSlot x).view.loc (c : Thread nD τ) ↦[(sSlot x).view.set]{q} f) := by rw [sSlot_set]; rfl
theorem rPts_slot (c : Dev nD) (x : X) (f) :
    rPts (F := F) c x f = ((rSlot x).view.loc (c : Thread nD τ) ↦[(rSlot x).view.set]{fullShare} f) := by rw [rSlot_set]; rfl

theorem amount_slot (x : X) (s : SemLoc sig) (hs : ∃ d, s = .dma d) : (rSlot x).view.amount s = N := by
  obtain ⟨d, rfl⟩ := hs; rfl

/-- A chunk stored as the device's sum of its round is the chunk filled; -/
theorem stored (c : Dev nD) (x : X) (f : S2x4x4x64x256.Idx → Elt F .bf16) (w : FVec F S1x1x1x64x256 .bf16)
    (hw : w = sumAt (prod m) x.1 x.2.2 x.2.1.val c) :
    (((c : Thread nD τ).loc cc0_scratch3) ↦[slotSet x]{fullShare} ((sM.access (slotRect x.1 x.2.1 x.2.2)).write (Elt F) f w Finset.univ) : sProp 𝕄)
      ⊢ filled m c x :=
  Entails.of_eq (pointsTo_congr fun i hi => store_send (prod m) c x f w hw i hi)
/-- rows stored as the last sum are the output's rows. -/
theorem stored_out (c : Dev nD) (y : Fin 4 × Fin 2) (f : S512x256.Idx → Elt F .bf16) (w : FVec F S64x256 .bf16)
    (hw : w = lastAt (prod m) y.2 y.1 c) :
    (((c : Thread nD τ).loc cc0_stg0_0) ↦[rowSet y]{fullShare} ((oM.access (rowRect y.2 y.1)).write (Elt F) f w Finset.univ) : sProp 𝕄)
      ⊢ (((c : Thread nD τ).loc cc0_stg0_0) ↦[rowSet y]{fullShare} (outAll (prod m) c)) :=
  Entails.of_eq (pointsTo_congr fun i hi => store_out (prod m) c y f w hw i hi)

/-! The cells' tables at the semaphores as the kernel names them. -/

abbrev recvAt (c : Dev nD) (x : X) : GSem nD τ sig := ((c : Thread nD τ), .dma (semOf cc0_scratch6 x.1 x.2.1 x.2.2).sem)
abbrev sendAt (c : Dev nD) (x : X) : GSem nD τ sig := ((c : Thread nD τ), .dma (semOf cc0_scratch5 x.1 x.2.1 x.2.2).sem)
theorem expect_recv (c : Dev nD) (x : X) : (sched (F := F) m).expect (recvAt c x) 0 = N := expect_own m c (.inr (.inr x))
theorem expect_send (c : Dev nD) (x : X) : (sched (F := F) m).expect (sendAt c x) 0 = N := expect_own m c (.inr (.inl x))
theorem rest_recv (c : Dev nD) (x : X) : bigSep ((sched (F := F) m).duties (recvAt c x) 0 \ ∅) (fun d => (sched (F := F) m).payload (recvAt c x) 0 d)
    = rPts c x (recvAll (prod m) c) := rest_own m c (.inr (.inr x))
theorem rest_send (c : Dev nD) (x : X) : bigSep ((sched (F := F) m).duties (sendAt c x) 0 \ ∅) (fun d => (sched (F := F) m).payload (sendAt c x) 0 d)
    = sPts c x fullShare.right (sendAll (prod m) c) := rest_own m c (.inr (.inl x))
theorem mayWait_recv (c : Dev nD) (x : X) (l : List (Dev nD × Cell)) (hl : ∀ a ∈ l, 2 + x.2.1.val < lvC a.2) :
    known (F := F) m K ⊢ MayWait (c : Thread nD τ) (.dma (semOf cc0_scratch6 x.1 x.2.1 x.2.2).sem) () (debt l) :=
  (known_lev m K).trans <| mayWait c (csem (recvC x)) (2 + x.2.1.val) (lv_cell (c, recvC x) ()).le l hl

/-! ## Announcing -/

/-- One signal: the partner's barrier cell is paid, with the chunks of this device's receiving scratch that it fills. -/
theorem wp_signalStep (c : Dev nD) (Q : PUnit → sProp 𝕄) (i : Fin 4) (l : List (Dev nD × Cell)) (k : P F) :
    iprop(known m K ∗ owing c (barDue c i :: l) ∗ (dutyTok ER (kcell (peer 0 i c, barC)) 0 i ∗ barPay (peer 0 i c) i) ∗ ((owing c l ∗ emp) -∗ WP c k Q))
      ⊢ WP c (signalStep c i k) Q := by
  unfold signalStep owing
  iintro ⟨#HK, ⟨%W, HO⟩, ⟨Ht, Hp⟩, Hk⟩
  rw [debt_cons]
  iapply (Rounds.wp_signal 𝒱₀ ER (sched m) (c : Thread nD τ) none (dst := (peer 0 i c : Thread nD τ)) (sem := barSem.sem) (κ := K (peer 0 i c, barC))
      (r := 0) (d := i) (by rw [show ((peer 0 i c : Thread nD τ), SemLoc.reg barSem.sem) = kcell (peer 0 i c, barC) from rfl, duties_eq]; exact Finset.mem_univ _)
      ((amount_eq m (peer 0 i c) barC i).trans (by decide)) () (debt l) rfl) $$ [HO Ht Hp]
  · isplitr; · iapply (known_inv m K (peer 0 i c, barC)); iexact HK
    isplitl [HO]; · iexact HO
    isplitl [Ht]; · iexact Ht
    isplitl [Hp]
    · rw [show ((peer 0 i c : Thread nD τ), SemLoc.reg barSem.sem) = kcell (peer 0 i c, barC) from rfl, payload_eq, show pay m (peer 0 i c) barC i = barPay (peer 0 i c) i from rfl]; iexact Hp
    iapply (known_reached m K (peer 0 i c, barC)); iexact HK
  iintro HO
  iapply Hk
  isplitl
  · iexists W; iexact HO
  iempintro

/-! ## Filling -/

/-- One chunk of the product put in its place. -/
theorem wp_fillStep (c : Dev nD) (Q : PUnit → sProp 𝕄) (y : Fin 4 × Fin 2) (k : P F) :
    iprop(free c (at' 0 y) ∗ (filled m c (at' 0 y) -∗ WP c k Q)) ⊢ WP c (fillStep sM sW (prod m c) y k) Q := by
  unfold fillStep free sPts
  iintro ⟨⟨%f, H⟩, Hk⟩
  iapply (wp_load_rect 𝒱₀ (c : Thread nD τ) none Set.univ (m := sM) (r := slotRect y.2 0 y.1) (S := slotSet (at' 0 y)) (q := fullShare) (f := f) (sAcc_set (at' 0 y)).subset) $$ H; iintro H
  iapply (wp_store 𝒱₀ (c : Thread nD τ) none Set.univ (m := sM) (r := slotRect y.2 0 y.1) (w := firstPay y.2 y.1 (prod m c)) (Mk := Finset.univ) (S := slotSet (at' 0 y)) (f := f) (sAcc_set (at' 0 y)).subset) $$ H; iintro H
  iapply Hk
  iapply (stored m c (at' 0 y) f _ (sumAt_zero (prod m) y.2 y.1 c).symm); iexact H

/-! ## Sending -/

/-- One chunk sent: its share halved, the partner's cell paid. -/
theorem wp_sendStep (c : Dev nD) (Q : PUnit → sProp 𝕄) (x : X) (l : List (Dev nD × Cell)) (k : P F) :
    iprop(known m K ∗ owing c ((peerX x c, recvC x) :: l) ∗ (pre c x ∗ filled m c x ∗ there c x) ∗ ((owing c l ∗ sent m c x) -∗ WP c k Q))
      ⊢ WP c (sendStep sM sW rM rW cc0_scratch5 cc0_scratch6 c x.1 x.2.1 x.2.2 k) Q := by
  unfold sendStep owing pre filled there sent
  iintro ⟨#HK, ⟨%W, HO⟩, ⟨⟨HaS, HaR, ⟨Ht1, Ht2⟩, HcR⟩, Hs, ⟨%f, Hd⟩⟩, Hk⟩
  rw [debt_cons]
  ihave Hs := (sPts_halves c x _).1 $$ Hs
  icases Hs with ⟨Hl, Hr⟩
  ihave Hr := (Entails.of_eq (sPts_slot c x fullShare.right _)) $$ Hr
  ihave Hd := (Entails.of_eq (rPts_slot (peerX x c) x f)) $$ Hd
  iapply (Rounds.wp_send_pointsTo 𝒱₀ ER (sched m) (c : Thread nD τ) none (c' := (peerX x c : Thread nD τ)) (src := sSlot x) (dst := rSlot x)
      (sS := csem (sendC x)) (sem := csem (recvC x)) (κ₁ := K (c, sendC x)) (κ₂ := K (peerX x c, recvC x))
      (q := fullShare.right) (fs := sendAll (prod m) c) (fd := f)
      (r₁ := 0) (r₂ := 0) (d₁ := 0) (d₂ := 0)
      (by rw [duties_eq m c (sendC x)]; exact Finset.mem_singleton_self _)
      (by rw [duties_eq m (peerX x c) (recvC x)]; exact Finset.mem_singleton_self _)
      () () N (amount_slot x _ ⟨_, rfl⟩) (amount_eq m c (sendC x) 0) (amount_eq m (peerX x c) (recvC x) 0) (debt l) rfl (W := W)
      (by rw [payload_eq m c (sendC x)]; exact Entails.of_eq (sPts_slot c x _ _).symm)
      (by
        rw [payload_eq m (peerX x c) (recvC x)]
        refine Entails.of_eq ((pointsTo_congr fun i hi => ?_).trans (rPts_slot (peerX x c) x _).symm)
        exact land_recv (prod m) c x f i (by rw [← rSlot_set]; exact hi))) $$ [HO Hr Hd Ht1 Ht2]
  · isplitr; · iapply (known_inv m K (c, sendC x)); iexact HK
    isplitr; · iapply (known_inv m K (peerX x c, recvC x)); iexact HK
    isplitl [Hr]; · iexact Hr
    isplitl [Hd]; · iexact Hd
    isplitl [HO]; · iexact HO
    isplitl [Ht1]; · iexact Ht1
    isplitr; · iapply (known_reached m K (c, sendC x)); iexact HK
    isplitl [Ht2]; · iexact Ht2
    iapply (known_reached m K (peerX x c, recvC x)); iexact HK
  iintro ⟨HcS, HO⟩
  iapply Hk
  isplitl [HO]
  · iexists W; iexact HO
  isplitl [HaS]; · iexact HaS
  isplitl [HaR]; · iexact HaR
  isplitl [HcR]; · iexact HcR
  isplitl [Hl]; · iexact Hl
  iexact HcS

/-! ## Taking and passing on -/

/-- The wait for the partner's chunk of a place, and the two reads. -/
theorem wp_takeStep (c : Dev nD) (Q : PUnit → sProp 𝕄) (x : X) (l : List (Dev nD × Cell)) (hl : ∀ a ∈ l, 2 + x.2.1.val < lvC a.2)
    (k : Vec F S1x1x1x64x256 .bf16 → Vec F S1x1x1x64x256 .bf16 → P F) :
    iprop(known m K ∗ owing c l ∗ sent m c x
        ∗ ((owing c l ∗ got m c x) -∗ WP c (k (sumAt (prod m) x.1 x.2.2 x.2.1.val c) (sumAt (prod m) x.1 x.2.2 x.2.1.val (peerX x c))) Q))
      ⊢ WP c (takeStep sM sW rM rW cc0_scratch6 x.1 x.2.1 x.2.2 k) Q := by
  unfold takeStep owing sent got
  iintro ⟨#HK, ⟨%W, HO⟩, ⟨HaS, HaR, HcR, Hl, HcS⟩, Hk⟩
  iapply (Rounds.wp_wait_rest_token 𝒱₀ ER (sched m) (c : Thread nD τ) none (κ := K (c, recvC x))
      (wpE_waitDma2_eq 𝒱₀ (c : Thread nD τ) none Set.univ) (Set.mem_univ _) () (O := debt l) (W := W) (R := 0) (m := 0) (T := ∅)
      (by rw [Nat.zero_add]; exact (expect_recv m c x).symm)) $$ [HcR HO HaR]
  · isplitr; · iapply (known_inv m K (c, recvC x)); iexact HK
    isplitl [HcR]; · iexact HcR
    isplitl [HO]; · iexact HO
    isplitr
    · iapply (mayWait_recv m K c x l hl); iexact HK
    iexact HaR
  iintro ⟨HO, HaR, -, Hp⟩
  ihave Hr := (Entails.of_eq (rest_recv m c x)) $$ Hp
  unfold sPts rPts
  iapply (wp_load_rect 𝒱₀ (c : Thread nD τ) none Set.univ (m := sM) (r := slotRect x.1 x.2.1 x.2.2) (S := slotSet x) (q := fullShare.left)
    (f := sendAll (prod m) c) (sAcc_set x).subset) $$ Hl; iintro Hl
  iapply (wp_load_rect 𝒱₀ (c : Thread nD τ) none Set.univ (m := rM) (r := slotRect x.1 x.2.1 x.2.2) (S := slotSet x) (q := fullShare)
    (f := recvAll (prod m) c) (rAcc_set x).subset) $$ Hr; iintro Hr
  rw [show (sM.access (slotRect x.1 x.2.1 x.2.2)).read (Elt F) (sendAll (prod m) c) = _ from read_send (prod m) c x,
    show (rM.access (slotRect x.1 x.2.1 x.2.2)).read (Elt F) (recvAll (prod m) c) = _ from read_recv (prod m) c x]
  iapply Hk
  isplitl [HO]
  · iexists _; iexact HO
  isplitl [HaS]; · iexact HaS
  isplitl [HaR]; · iexact HaR
  isplitl [Hr]; · iexact Hr
  isplitl [Hl]; · iexact Hl
  iexact HcS

/-- One chunk of round `q` taken, summed and passed on in round `r`. -/
theorem wp_passStep (c : Dev nD) (Q : PUnit → sProp 𝕄) (q r : Fin 4) (hqr : r.val = q.val + 1) (y : Fin 4 × Fin 2) (l : List (Dev nD × Cell))
    (hl : ∀ a ∈ l, 2 + q.val < lvC a.2) (k : P F) :
    iprop(known m K ∗ owing c (sendDue c r y :: l) ∗ (sent m c (at' q y) ∗ pre c (at' r y) ∗ free c (at' r y) ∗ there c (at' r y))
        ∗ ((owing c l ∗ got m c (at' q y) ∗ sent m c (at' r y)) -∗ WP c k Q))
      ⊢ WP c (passStep sM sW rM rW cc0_scratch5 cc0_scratch6 c q r y k) Q := by
  unfold passStep
  iintro ⟨#HK, HO, ⟨Hs, Hp, Hf, Ht⟩, Hk⟩
  iapply (wp_takeStep m K c Q (at' q y) (sendDue c r y :: l) (fun a ha => by
    rcases List.mem_cons.mp ha with rfl | ha
    · show 2 + q.val < 2 + r.val; omega
    · exact hl a ha))
  isplitr; · iexact HK
  isplitl [HO]; · iexact HO
  isplitl [Hs]; · iexact Hs
  iintro ⟨HO, Hg⟩
  unfold free
  icases Hf with ⟨%f, H⟩
  unfold sPts
  iapply (wp_load_rect 𝒱₀ (c : Thread nD τ) none Set.univ (m := sM) (r := slotRect y.2 r y.1) (S := slotSet (at' r y)) (q := fullShare) (f := f)
    (sAcc_set (at' r y)).subset) $$ H; iintro H
  iapply (wp_store 𝒱₀ (c : Thread nD τ) none Set.univ (m := sM) (r := slotRect y.2 r y.1)
    (w := nextPay (sumAt (prod m) y.2 y.1 q.val c) (sumAt (prod m) y.2 y.1 q.val (peer y.2 q c))) (Mk := Finset.univ) (S := slotSet (at' r y)) (f := f)
    (sAcc_set (at' r y)).subset) $$ H; iintro H
  iapply (wp_sendStep m K c Q (at' r y) l k)
  isplitr; · iexact HK
  isplitl [HO]; · iexact HO
  isplitl [Hp H Ht]
  · isplitl [Hp]; · iexact Hp
    isplitl [H]
    · iapply (stored m c (at' r y) f _ (by
        show _ = sumAt (prod m) y.2 y.1 r.val c
        rw [hqr, sumAt_succ, show Fin.ofNat 4 q.val = q from Fin.ext (Nat.mod_eq_of_lt q.isLt)])); iexact H
    iexact Ht
  iintro ⟨HO, Hs⟩
  iapply Hk
  isplitl [HO]; · iexact HO
  isplitl [Hg]; · iexact Hg
  iexact Hs

/-- One chunk of the last round taken and its sum put in its rows of the output. -/
theorem wp_outStep (c : Dev nD) (Q : PUnit → sProp 𝕄) (y : Fin 4 × Fin 2) (k : P F) :
    iprop(known m K ∗ owing c [] ∗ (sent m c (at' 3 y) ∗ ∃ f, oPts c y f)
        ∗ ((owing c [] ∗ got m c (at' 3 y) ∗ oPts c y (outAll (prod m) c)) -∗ WP c k Q))
      ⊢ WP c (outStep oM oW sM sW rM rW cc0_scratch6 y k) Q := by
  unfold outStep
  iintro ⟨#HK, HO, ⟨Hs, ⟨%f, H⟩⟩, Hk⟩
  iapply (wp_takeStep m K c Q (at' 3 y) [] (fun a ha => absurd ha List.not_mem_nil))
  isplitr; · iexact HK
  isplitl [HO]; · iexact HO
  isplitl [Hs]; · iexact Hs
  iintro ⟨HO, Hg⟩
  unfold oPts
  iapply (wp_load_rect 𝒱₀ (c : Thread nD τ) none Set.univ (m := oM) (r := rowRect y.2 y.1) (S := rowSet y) (q := fullShare) (f := f)
    (oAcc_set y).subset) $$ H; iintro H
  iapply (wp_store 𝒱₀ (c : Thread nD τ) none Set.univ (m := oM) (r := rowRect y.2 y.1)
    (w := lastPay (sumAt (prod m) y.2 y.1 3 c) (sumAt (prod m) y.2 y.1 3 (peer y.2 3 c))) (Mk := Finset.univ) (S := rowSet y) (f := f)
    (oAcc_set y).subset) $$ H; iintro H
  iapply Hk
  isplitl [HO]; · iexact HO
  isplitl [Hg]; · iexact Hg
  iapply (stored_out m c y f _ (lastAt_eq (prod m) y.2 y.1 c).symm); iexact H

/-! ## Draining -/

/-- The wait until a chunk has left: its whole share is back. -/
theorem wp_drainStep (c : Dev nD) (Q : PUnit → sProp 𝕄) (y : Fin 4 × Fin 4 × Fin 2) (k : P F) :
    iprop(known m K ∗ owing c [] ∗ got m c (y.2.2, y.1, y.2.1) ∗ ((owing c [] ∗ over m c (y.2.2, y.1, y.2.1)) -∗ WP c k Q))
      ⊢ WP c (drainStep sM sW rM rW cc0_scratch5 y k) Q := by
  unfold drainStep owing got over
  iintro ⟨#HK, ⟨%W, HO⟩, ⟨HaS, HaR, Hr, Hl, HcS⟩, Hk⟩
  iapply (Rounds.wp_wait_rest_token 𝒱₀ ER (sched m) (c : Thread nD τ) none (κ := K (c, sendC (y.2.2, y.1, y.2.1)))
      (wpE_waitDma2_eq 𝒱₀ (c : Thread nD τ) none Set.univ) (Set.mem_univ _) () (O := debt []) (W := W) (R := 0) (m := 0) (T := ∅)
      (by rw [Nat.zero_add]; exact (expect_send m c (y.2.2, y.1, y.2.1)).symm)) $$ [HcS HO HaS]
  · isplitr; · iapply (known_inv m K (c, sendC (y.2.2, y.1, y.2.1))); iexact HK
    isplitl [HcS]; · iexact HcS
    isplitl [HO]; · iexact HO
    isplitr
    · rw [debt_nil, MayWait_zero]; iempintro
    iexact HaS
  iintro ⟨HO, HaS, -, Hp⟩
  ihave Hb := (Entails.of_eq (rest_send m c (y.2.2, y.1, y.2.1))) $$ Hp
  iapply Hk
  isplitl [HO]
  · iexists _; iexact HO
  isplitl [HaS]; · iexact HaS
  isplitl [HaR]; · iexact HaR
  isplitl [Hr]; · iexact Hr
  iapply (sPts_halves c (y.2.2, y.1, y.2.1) _).2
  isplitl [Hl]; · iexact Hl
  iexact Hb

end Cert.Butterfly

end
-- ==== Proof.Body.lean ====
/-
# The kernel's body, run

The phases in order: the partners are told, the operands copied in and multiplied, the chunks filled, sent, passed on
three times, written out, and the sends drained.
-/
module

public import proofs.«01_k».proof.Proof.Steps

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families of chunks -/

/-- The chunks in the kernel's order are all of them, -/
theorem chunks_eq (Φ : Fin 4 × Fin 2 → sProp 𝕄) : bigSepL chunks Φ = bigSep Finset.univ Φ :=
  (bigSep_univ_eq_bigSepL chunks (by decide) (by decide) Φ).symm
/-- over all rounds too, -/
theorem rounds_eq (Φ : X → sProp 𝕄) : bigSepL (rounds [0, 1, 2, 3]) (fun y => Φ (y.2.2, y.1, y.2.1)) = bigSep Finset.univ Φ := by
  rw [← bigSepL_map (fun y : Fin 4 × Fin 4 × Fin 2 => ((y.2.2, y.1, y.2.1) : X))]
  exact (bigSep_univ_eq_bigSepL _ (by decide +kernel) (by decide +kernel) Φ).symm
/-- round by round. -/
theorem split4 (Φ : X → sProp 𝕄) : bigSep Finset.univ Φ
    = iprop((bigSep Finset.univ fun y => Φ (at' 0 y)) ∗ (bigSep Finset.univ fun y => Φ (at' 1 y))
      ∗ (bigSep Finset.univ fun y => Φ (at' 2 y)) ∗ (bigSep Finset.univ fun y => Φ (at' 3 y))) := by
  rw [← rounds_eq, show rounds [0, 1, 2, 3] = chunks.map (fun x => ((0 : Fin 4), x.1, x.2)) ++ (chunks.map (fun x => ((1 : Fin 4), x.1, x.2))
    ++ (chunks.map (fun x => ((2 : Fin 4), x.1, x.2)) ++ chunks.map (fun x => ((3 : Fin 4), x.1, x.2)))) from rfl,
    bigSepL_append, bigSepL_append, bigSepL_append, bigSepL_map, bigSepL_map, bigSepL_map, bigSepL_map,
    chunks_eq, chunks_eq, chunks_eq, chunks_eq]

/-- Every place is one of those that the partner of round `i` of half 0 fills, for one `i`. -/
def byPartner : Fin 4 × (Fin 2 × Fin 4) ≃ X where
  toFun z := (z.2.1, turn z.2.1 z.1, z.2.2)
  invFun x := (turn x.1 x.2.1, x.1, x.2.2)
  left_inv z := by simp [turn_turn]
  right_inv x := by simp [turn_turn]

theorem byPartner_eq (Φ : X → sProp 𝕄) :
    (bigSep Finset.univ fun i : Fin 4 => bigSep Finset.univ fun y : Fin 2 × Fin 4 => Φ (y.1, turn y.1 i, y.2)) = bigSep Finset.univ Φ := by
  rw [bigSep_univ_equiv byPartner Φ, bigSep_univ_prod]; rfl

/-- The chunks of its receiving scratch that a device hands out are all of them; -/
theorem hand_out (c : Dev nD) : (bigSep Finset.univ fun x : X => iprop(∃ f, rPts (F := F) c x f))
    = bigSep Finset.univ fun i : Fin 4 => barPay (peer 0 i c) i := by
  rw [← byPartner_eq]
  refine bigSep_congr fun i _ => ?_
  unfold barPay; rw [peer_peer]
/-- those that it is handed are, for every place, its partner's. -/
theorem handed (c : Dev nD) : (bigSep Finset.univ fun i : Fin 4 => barPay (F := F) c i) = bigSep Finset.univ (there (F := F) c) := by
  rw [← byPartner_eq]
  refine bigSep_congr fun i _ => ?_
  unfold barPay there peerX
  exact bigSep_congr fun y _ => by dsimp only; rw [peer_turn]

variable (m : (ℓ : Loc nD τ sig) → Buf (Elt F) ℓ) (K : Dev nD × Cell → ℕ)

/-- `wp_steps` over all chunks. -/
theorem wp_chunks (c : Dev nD) (Γ : sProp 𝕄) [BI.Persistent Γ] (T : List (Fin 4 × Fin 2) → sProp 𝕄) (A B : Fin 4 × Fin 2 → sProp 𝕄)
    (f : Fin 4 × Fin 2 → P F → P F) (Q : PUnit → sProp 𝕄)
    (h : ∀ a l k, iprop(Γ ∗ T (a :: l) ∗ A a ∗ ((T l ∗ B a) -∗ WP c k Q)) ⊢ WP c (f a k) Q) (k : P F) :
    iprop(Γ ∗ T chunks ∗ bigSep Finset.univ A ∗ ((T [] ∗ bigSep Finset.univ B) -∗ WP c k Q)) ⊢ WP c (steps chunks f k) Q := by
  rw [← chunks_eq, ← chunks_eq]; exact wp_steps c Γ T A B f Q h k chunks

/-! ## The phases -/

/-- All chunks of the product put in their places. -/
theorem wp_fill (c : Dev nD) (Q : PUnit → sProp 𝕄) (k : P F) :
    iprop(known m K ∗ (bigSep Finset.univ fun y => free c (at' 0 y)) ∗ ((bigSep Finset.univ fun y => filled m c (at' 0 y)) -∗ WP c k Q))
      ⊢ WP c (steps chunks (fillStep sM sW (prod m c)) k) Q := by
  iintro ⟨#HK, HA, Hk⟩
  iapply (wp_chunks c (known m K) (fun _ => iprop(emp)) (fun y => free c (at' 0 y)) (fun y => filled m c (at' 0 y)) _ Q (fun y l k => by
    iintro ⟨-, -, HA, Hk⟩
    iapply (wp_fillStep m c Q y k)
    isplitl [HA]; · iexact HA
    iintro HB
    iapply Hk
    isplitr; · iempintro
    iexact HB) k)
  isplitr; · iexact HK
  isplitr; · iempintro
  isplitl [HA]; · iexact HA
  iintro ⟨-, HB⟩
  iapply Hk; iexact HB

/-- `wp_sendStep` for a chunk of the first round. -/
theorem wp_sendStep0 (c : Dev nD) (Q : PUnit → sProp 𝕄) (y : Fin 4 × Fin 2) (l : List (Dev nD × Cell)) (k : P F) :
    iprop(known m K ∗ owing c (sendDue c 0 y :: l) ∗ (pre c (at' 0 y) ∗ filled m c (at' 0 y) ∗ there c (at' 0 y))
        ∗ ((owing c l ∗ sent m c (at' 0 y)) -∗ WP c k Q))
      ⊢ WP c (sendStep sM sW rM rW cc0_scratch5 cc0_scratch6 c y.2 0 y.1 k) Q :=
  wp_sendStep m K c Q (y.2, 0, y.1) l k

/-- All chunks of the first round sent. -/
theorem wp_sends (c : Dev nD) (Q : PUnit → sProp 𝕄) (k : P F) :
    iprop(known m K ∗ owing c (sendDues c [0, 1, 2, 3])
        ∗ (bigSep Finset.univ fun y => iprop(pre c (at' 0 y) ∗ filled m c (at' 0 y) ∗ there c (at' 0 y)))
        ∗ ((owing c (sendDues c [1, 2, 3]) ∗ bigSep Finset.univ fun y => sent m c (at' 0 y)) -∗ WP c k Q))
      ⊢ WP c (steps chunks (fun x => sendStep sM sW rM rW cc0_scratch5 cc0_scratch6 c x.2 0 x.1) k) Q :=
  wp_chunks c (known m K) (fun l => owing c (l.map (sendDue c 0) ++ sendDues c [1, 2, 3])) (fun y => iprop(pre c (at' 0 y) ∗ filled m c (at' 0 y) ∗ there c (at' 0 y)))
    (fun y => sent m c (at' 0 y)) (fun x => sendStep sM sW rM rW cc0_scratch5 cc0_scratch6 c x.2 0 x.1) Q (fun y l k => wp_sendStep0 m K c Q y (l.map (sendDue c 0) ++ sendDues c [1, 2, 3]) k) k

/-- All chunks of round `q` taken and passed on in round `r`. -/
theorem wp_pass (c : Dev nD) (Q : PUnit → sProp 𝕄) (q r : Fin 4) (rs : List (Fin 4)) (hqr : r.val = q.val + 1) (hrs : ∀ s ∈ rs, q.val < s.val) (k : P F) :
    iprop(known m K ∗ owing c (sendDues c (r :: rs))
        ∗ (bigSep Finset.univ fun y => iprop(sent m c (at' q y) ∗ pre c (at' r y) ∗ free c (at' r y) ∗ there c (at' r y)))
        ∗ ((owing c (sendDues c rs) ∗ bigSep Finset.univ fun y => iprop(got m c (at' q y) ∗ sent m c (at' r y))) -∗ WP c k Q))
      ⊢ WP c (steps chunks (passStep sM sW rM rW cc0_scratch5 cc0_scratch6 c q r) k) Q :=
  wp_chunks c (known m K) (fun l => owing c (l.map (sendDue c r) ++ sendDues c rs))
    (fun y => iprop(sent m c (at' q y) ∗ pre c (at' r y) ∗ free c (at' r y) ∗ there c (at' r y)))
    (fun y => iprop(got m c (at' q y) ∗ sent m c (at' r y))) _ Q
    (fun y l k => wp_passStep m K c Q q r hqr y (l.map (sendDue c r) ++ sendDues c rs) (fun a ha => by
      rcases List.mem_append.mp ha with ha | ha
      · exact sendDue_lv (by omega) l a ha
      · exact sendDues_lv (fun s hs => by have := hrs s hs; omega) a ha) k) k

/-- All chunks of the last round taken and written out. -/
theorem wp_outs (c : Dev nD) (Q : PUnit → sProp 𝕄) (k : P F) :
    iprop(known m K ∗ owing c []
        ∗ (bigSep Finset.univ fun y => iprop(sent m c (at' 3 y) ∗ ∃ f, oPts c y f))
        ∗ ((owing c [] ∗ bigSep Finset.univ fun y => iprop(got m c (at' 3 y) ∗ oPts c y (outAll (prod m) c))) -∗ WP c k Q))
      ⊢ WP c (steps chunks (outStep oM oW sM sW rM rW cc0_scratch6) k) Q :=
  wp_chunks c (known m K) (fun _ => owing c []) (fun y => iprop(sent m c (at' 3 y) ∗ ∃ f, oPts c y f))
    (fun y => iprop(got m c (at' 3 y) ∗ oPts c y (outAll (prod m) c))) _ Q (fun y _ k => wp_outStep m K c Q y k) k

/-- Every chunk sent has left. -/
theorem wp_drain (c : Dev nD) (Q : PUnit → sProp 𝕄) (k : P F) :
    iprop(known m K ∗ owing c [] ∗ bigSep Finset.univ (got m c) ∗ ((owing c [] ∗ bigSep Finset.univ (over m c)) -∗ WP c k Q))
      ⊢ WP c (steps (rounds [0, 1, 2, 3]) (drainStep sM sW rM rW cc0_scratch5) k) Q := by
  rw [← rounds_eq (got m c), ← rounds_eq (over m c)]
  exact wp_steps c (known m K) (fun _ => owing c []) (fun y : Fin 4 × Fin 4 × Fin 2 => got m c (y.2.2, y.1, y.2.1))
    (fun y => over m c (y.2.2, y.1, y.2.1)) (drainStep sM sW rM rW cc0_scratch5) Q
    (fun y _ k => wp_drainStep m K c Q y k) k (rounds [0, 1, 2, 3])

/-- Every partner told. -/
theorem wp_signals (c : Dev nD) (Q : PUnit → sProp 𝕄) (k : P F) :
    iprop(known m K ∗ owing c (dues c)
        ∗ (bigSep Finset.univ fun i : Fin 4 => iprop(dutyTok ER (kcell (peer 0 i c, barC)) 0 i ∗ barPay (peer 0 i c) i))
        ∗ (owing c (sendDues c [0, 1, 2, 3]) -∗ WP c k Q))
      ⊢ WP c (steps [0, 1, 2, 3] (signalStep c) k) Q := by
  iintro ⟨#HK, HO, HA, Hk⟩
  iapply (wp_steps c (known m K) (fun l => owing c (l.map (barDue c) ++ sendDues c [0, 1, 2, 3]))
    (fun i : Fin 4 => iprop(dutyTok ER (kcell (peer 0 i c, barC)) 0 i ∗ barPay (peer 0 i c) i)) (fun _ => iprop(emp)) _ Q
    (fun i l k => wp_signalStep m K c Q i (l.map (barDue c) ++ sendDues c [0, 1, 2, 3]) k) k [0, 1, 2, 3])
  isplitr; · iexact HK
  isplitl [HO]; · iexact HO
  isplitl [HA]
  · rw [← bigSep_univ_eq_bigSepL [0, 1, 2, 3] (by decide) (by decide)]; iexact HA
  iintro ⟨HO, -⟩
  iapply Hk; iexact HO

/-- The wait for the four partners: their chunks come with it. -/
theorem wp_barWait (c : Dev nD) (Q : PUnit → sProp 𝕄) (k : P F) :
    iprop(known m K ∗ owing c (sendDues c [0, 1, 2, 3]) ∗ atPos ER (kcell (c, barC)) 0 ∅ 0 ∗ cred (tallyAt (kcell (c, barC)) () 4)
        ∗ ((owing c (sendDues c [0, 1, 2, 3]) ∗ atPos ER (kcell (c, barC)) 1 ∅ 0 ∗ bigSep Finset.univ (there c)) -∗ WP c k Q))
      ⊢ WP c (.op (.semWait barSem.sem (4#32).toInt) fun _ => k) Q := by
  unfold owing
  iintro ⟨#HK, ⟨%W, HO⟩, HaB, HcB, Hk⟩
  iapply (Rounds.wp_wait_rest_token 𝒱₀ ER (sched m) (c : Thread nD τ) none (κ := K (c, barC))
      (wpE_semWait_eq 𝒱₀ (c : Thread nD τ) none Set.univ) (Set.mem_univ _) () (O := debt (sendDues c [0, 1, 2, 3])) (W := W) (R := 0) (m := 0) (T := ∅)
      (by rw [show ((c : Thread nD τ), SemLoc.reg barSem.sem) = kcell (c, barC) from rfl, expect_bar]; decide)) $$ [HcB HO HaB]
  · isplitr; · iapply (known_inv m K (c, barC)); iexact HK
    isplitl [HcB]; · iexact HcB
    isplitl [HO]; · iexact HO
    isplitr
    · iapply ((known_lev m K).trans (mayWait c (.reg barSem.sem) 1 (lv_cell (c, barC) ()).le (sendDues c [0, 1, 2, 3]) (sendDues_lv fun r _ => by omega))); iexact HK
    iexact HaB
  iintro ⟨HO, HaB, -, Hp⟩
  ihave Hp := (show bigSep ((sched (F := F) m).duties ((c : Thread nD τ), SemLoc.reg barSem.sem) 0 \ ∅)
      (fun d => (sched (F := F) m).payload ((c : Thread nD τ), SemLoc.reg barSem.sem) 0 d) ⊢ bigSep Finset.univ (there c) from
      Entails.of_eq ((rest_bar m c).trans (handed c))) $$ Hp
  iapply Hk
  isplitl [HO]
  · iexists _; iexact HO
  isplitl [HaB]; · iexact HaB
  iexact Hp

end Cert.Butterfly

end
-- ==== Proof.Device.lean ====
/-
# One device's run

From what a device starts with to what it ends with: all phases in order, the scratches taken apart and put together
again, its cells closed.
-/
module

public import proofs.«01_k».proof.Proof.Body

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ)

/-! ## What a device starts with -/

/-- Its positions at its cells: before round `n`. -/
def poss (c : Dev nD) (n : ℕ) : sProp 𝕄 := bigSep Finset.univ fun k : Cell => atPos ER (kcell (c, k)) n ∅ 0
/-- The rights to pay: the partners' barrier cells, its own cells for local copies, those it sends from, and the
partners' that it sends to. -/
def toks (c : Dev nD) : sProp 𝕄 :=
  iprop((bigSep Finset.univ fun i : Fin 4 => dutyTok ER (kcell (peer 0 i c, barC)) 0 i)
    ∗ (bigSep Finset.univ fun i : Fin 2 => dutyTok ER (kcell (c, inC i)) 0 0)
    ∗ (bigSep Finset.univ fun x : X => dutyTok ER (kcell (c, sendC x)) 0 0)
    ∗ bigSep Finset.univ fun x : X => dutyTok ER (kcell (peerX x c, recvC x)) 0 0)
/-- What others owe it. -/
def creds (c : Dev nD) : sProp 𝕄 :=
  iprop(cred (tallyAt (kcell (c, barC)) () 4) ∗ bigSep Finset.univ fun x : X => cred (tallyAt (kcell (c, recvC x)) () N))
/-- Its arguments. -/
def args (c : Dev nD) : sProp 𝕄 :=
  iprop((((c : Thread nD τ).loc main_arg0) ↦{fullShare} (tX m c)) ∗ (((c : Thread nD τ).loc main_arg1) ↦{fullShare} (wX m c)))
/-- Its four scratches, with any contents. -/
def scratch (c : Dev nD) : sProp 𝕄 :=
  iprop((∃ f : Vec F S512x256 .bf16, ((c : Thread nD τ).loc cc0_scratch0) ↦{fullShare} f) ∗ (∃ f : Vec F S256x256 .bf16, ((c : Thread nD τ).loc cc0_scratch1) ↦{fullShare} f)
    ∗ (∃ f : Vec F S2x4x4x64x256 .bf16, ((c : Thread nD τ).loc cc0_scratch3) ↦{fullShare} f) ∗ (∃ f : Vec F S2x4x4x64x256 .bf16, ((c : Thread nD τ).loc cc0_scratch4) ↦{fullShare} f))

theorem two (Φ : Fin 2 → sProp 𝕄) : bigSep Finset.univ Φ = iprop(Φ 0 ∗ Φ 1) := by
  rw [bigSep_univ_eq_bigSepL [0, 1] (by decide) (by decide), bigSepL_cons', bigSepL_singleton]
theorem one (Φ : Unit → sProp 𝕄) : bigSep Finset.univ Φ = Φ () := by
  rw [bigSep_univ_eq_bigSepL [()] (by decide) (by decide), bigSepL_singleton]

/-- All cells of a device, kind by kind. -/
theorem cells_split (Φ : Cell → sProp 𝕄) : bigSep Finset.univ Φ
    = iprop(Φ barC ∗ (Φ (inC 0) ∗ Φ (inC 1)) ∗ (bigSep Finset.univ fun x => Φ (sendC x)) ∗ bigSep Finset.univ fun x => Φ (recvC x)) := by
  rw [bigSep_univ_sum, one, bigSep_univ_sum, two, bigSep_univ_sum]; rfl

/-- What is needed for every chunk, together. -/
theorem pres (c : Dev nD) : bigSep Finset.univ (pre (F := F) c)
    = iprop((bigSep Finset.univ fun x => atPos ER (kcell (c, sendC x)) 0 ∅ 0) ∗ (bigSep Finset.univ fun x => atPos ER (kcell (c, recvC x)) 0 ∅ 0)
      ∗ ((bigSep Finset.univ fun x => dutyTok ER (kcell (c, sendC x)) 0 0) ∗ bigSep Finset.univ fun x => dutyTok ER (kcell (peerX x c, recvC x)) 0 0)
      ∗ bigSep Finset.univ fun x => cred (tallyAt (kcell (c, recvC x)) () N)) := by
  unfold pre; rw [bigSep_sep', bigSep_sep', bigSep_sep', bigSep_sep']
theorem overs (c : Dev nD) : bigSep Finset.univ (over m c)
    = iprop((bigSep Finset.univ fun x => atPos ER (kcell (c, sendC x)) 1 ∅ 0) ∗ (bigSep Finset.univ fun x => atPos ER (kcell (c, recvC x)) 1 ∅ 0)
      ∗ (bigSep Finset.univ fun x => rPts c x (recvAll (prod m) c)) ∗ bigSep Finset.univ fun x => sPts c x fullShare (sendAll (prod m) c)) := by
  unfold over; rw [bigSep_sep', bigSep_sep', bigSep_sep']

/-! ## Scratches and output in pieces -/

theorem send_pieces (c : Dev nD) (f : S2x4x4x64x256.Idx → Elt F .bf16) :
    ((((c : Thread nD τ).loc cc0_scratch3) ↦{fullShare} f : sProp 𝕄)) = bigSep Finset.univ fun x => sPts c x fullShare f := by
  have h := pointsTo_biUnion (Ix := Unit) (Name := ℕ) (U := UU) (Lvl := ℕ) (ℓ := (c : Thread nD τ).loc cc0_scratch3) (q := fullShare) (f := f) Finset.univ slotSet
    (fun x _ y _ h => slot_disj x y h)
  rw [slot_cover] at h
  exact h
theorem recv_pieces (c : Dev nD) (f : S2x4x4x64x256.Idx → Elt F .bf16) :
    ((((c : Thread nD τ).loc cc0_scratch4) ↦{fullShare} f : sProp 𝕄)) = bigSep Finset.univ fun x => rPts c x f := by
  have h := pointsTo_biUnion (Ix := Unit) (Name := ℕ) (U := UU) (Lvl := ℕ) (ℓ := (c : Thread nD τ).loc cc0_scratch4) (q := fullShare) (f := f) Finset.univ slotSet
    (fun x _ y _ h => slot_disj x y h)
  rw [slot_cover] at h
  exact h
theorem out_pieces (c : Dev nD) (f : S512x256.Idx → Elt F .bf16) :
    ((((c : Thread nD τ).loc cc0_stg0_0) ↦{fullShare} f : sProp 𝕄)) = bigSep Finset.univ fun y => oPts c y f := by
  have h := pointsTo_biUnion (Ix := Unit) (Name := ℕ) (U := UU) (Lvl := ℕ) (ℓ := (c : Thread nD τ).loc cc0_stg0_0) (q := fullShare) (f := f) Finset.univ rowSet
    (fun x _ y _ h => row_disj x y h)
  rw [row_cover] at h
  exact h

/-- A scratch with any contents gives pieces with any contents. -/
theorem free_pieces (c : Dev nD) : iprop(∃ f : Vec F S2x4x4x64x256 .bf16, ((c : Thread nD τ).loc cc0_scratch3) ↦{fullShare} f) ⊢ bigSep Finset.univ (free (F := F) c) := by
  refine exists_elim fun f => (Entails.of_eq (send_pieces c f)).trans (bigSep_mono fun x _ => ?_)
  unfold free
  exact exists_intro (Φ := fun f => sPts c x fullShare f) f
theorem given_pieces (c : Dev nD) : iprop(∃ f : Vec F S2x4x4x64x256 .bf16, ((c : Thread nD τ).loc cc0_scratch4) ↦{fullShare} f)
    ⊢ bigSep Finset.univ fun i : Fin 4 => barPay (F := F) (peer 0 i c) i := by
  rw [← hand_out]
  refine exists_elim fun f => (Entails.of_eq (recv_pieces c f)).trans (bigSep_mono fun x _ => ?_)
  exact exists_intro (Φ := fun f => rPts c x f) f
theorem any_rows (c : Dev nD) : iprop(∃ f : Vec F S512x256 .bf16, ((c : Thread nD τ).loc cc0_stg0_0) ↦{fullShare} f)
    ⊢ bigSep Finset.univ fun y => iprop(∃ f, oPts (F := F) c y f) := by
  refine exists_elim fun f => (Entails.of_eq (out_pieces c f)).trans (bigSep_mono fun y _ => ?_)
  exact exists_intro (Φ := fun f => oPts c y f) f

/-! ## From the products to the output -/

/-- The body from the first filling on. -/
def tail (d : Dev nD) (p : FVec F S512x256 .bf16) (k : P F) : P F :=
  steps chunks (fillStep sM sW p) <|
  .op (.semWait barSem.sem (4#32).toInt) fun _ =>
  steps chunks (fun x => sendStep sM sW rM rW cc0_scratch5 cc0_scratch6 d x.2 0 x.1) <|
  steps chunks (passStep sM sW rM rW cc0_scratch5 cc0_scratch6 d 0 1) <|
  steps chunks (passStep sM sW rM rW cc0_scratch5 cc0_scratch6 d 1 2) <|
  steps chunks (passStep sM sW rM rW cc0_scratch5 cc0_scratch6 d 2 3) <|
  steps chunks (outStep oM oW sM sW rM rW cc0_scratch6) <|
  steps (rounds [0, 1, 2, 3]) (drainStep sM sW rM rW cc0_scratch5) k

/-- The body from the first filling on, run. -/
theorem wp_tail (c : Dev nD) (Q : PUnit → sProp 𝕄) (k : P F) :
    iprop(known m K ∗ owing c (sendDues c [0, 1, 2, 3]) ∗ bigSep Finset.univ (pre c) ∗ bigSep Finset.univ (free c)
        ∗ atPos ER (kcell (c, barC)) 0 ∅ 0 ∗ cred (tallyAt (kcell (c, barC)) () 4)
        ∗ (bigSep Finset.univ fun y => iprop(∃ f, oPts c y f))
        ∗ ((owing c [] ∗ atPos ER (kcell (c, barC)) 1 ∅ 0 ∗ bigSep Finset.univ (over m c)
          ∗ bigSep Finset.univ fun y => oPts c y (outAll (prod m) c)) -∗ WP c k Q))
      ⊢ WP c (tail c (prod m c) k) Q := by
  unfold tail
  rw [split4 (pre c), split4 (free c)]
  iintro ⟨#HK, HO, ⟨Hp0, Hp1, Hp2, Hp3⟩, ⟨Hf0, Hf1, Hf2, Hf3⟩, HaB, HcB, Ho, Hk⟩
  iapply (wp_fill m K c Q)
  isplitr; · iexact HK
  isplitl [Hf0]; · iexact Hf0
  iintro Hf0
  iapply (wp_barWait m K c Q)
  isplitr; · iexact HK
  isplitl [HO]; · iexact HO
  isplitl [HaB]; · iexact HaB
  isplitl [HcB]; · iexact HcB
  iintro ⟨HO, HaB, Ht⟩
  ihave Ht := (Entails.of_eq (split4 (there c))) $$ Ht
  icases Ht with ⟨Ht0, Ht1, Ht2, Ht3⟩
  iapply (wp_sends m K c Q)
  isplitr; · iexact HK
  isplitl [HO]; · iexact HO
  isplitl [Hp0 Hf0 Ht0]
  · rw [bigSep_sep', bigSep_sep']
    isplitl [Hp0]; · iexact Hp0
    isplitl [Hf0]; · iexact Hf0
    iexact Ht0
  iintro ⟨HO, Hs0⟩
  iapply (wp_pass m K c Q 0 1 [2, 3] rfl (by decide))
  isplitr; · iexact HK
  isplitl [HO]; · iexact HO
  isplitl [Hs0 Hp1 Hf1 Ht1]
  · rw [bigSep_sep', bigSep_sep', bigSep_sep']
    isplitl [Hs0]; · iexact Hs0
    isplitl [Hp1]; · iexact Hp1
    isplitl [Hf1]; · iexact Hf1
    iexact Ht1
  rw [bigSep_sep']
  iintro ⟨HO, Hg0, Hs1⟩
  iapply (wp_pass m K c Q 1 2 [3] rfl (by decide))
  isplitr; · iexact HK
  isplitl [HO]; · iexact HO
  isplitl [Hs1 Hp2 Hf2 Ht2]
  · rw [bigSep_sep', bigSep_sep', bigSep_sep']
    isplitl [Hs1]; · iexact Hs1
    isplitl [Hp2]; · iexact Hp2
    isplitl [Hf2]; · iexact Hf2
    iexact Ht2
  rw [bigSep_sep']
  iintro ⟨HO, Hg1, Hs2⟩
  iapply (wp_pass m K c Q 2 3 [] rfl (by decide))
  isplitr; · iexact HK
  isplitl [HO]; · iexact HO
  isplitl [Hs2 Hp3 Hf3 Ht3]
  · rw [bigSep_sep', bigSep_sep', bigSep_sep']
    isplitl [Hs2]; · iexact Hs2
    isplitl [Hp3]; · iexact Hp3
    isplitl [Hf3]; · iexact Hf3
    iexact Ht3
  rw [bigSep_sep']
  iintro ⟨HO, Hg2, Hs3⟩
  iapply (wp_outs m K c Q)
  isplitr; · iexact HK
  isplitl [HO]; · iexact HO
  isplitl [Hs3 Ho]
  · rw [bigSep_sep']
    isplitl [Hs3]; · iexact Hs3
    iexact Ho
  rw [bigSep_sep']
  iintro ⟨HO, Hg3, Ho⟩
  iapply (wp_drain m K c Q)
  isplitr; · iexact HK
  isplitl [HO]; · iexact HO
  isplitl [Hg0 Hg1 Hg2 Hg3]
  · rw [split4 (got m c)]
    isplitl [Hg0]; · iexact Hg0
    isplitl [Hg1]; · iexact Hg1
    isplitl [Hg2]; · iexact Hg2
    iexact Hg3
  iintro ⟨HO, Hov⟩
  iapply Hk
  isplitl [HO]; · iexact HO
  isplitl [HaB]; · iexact HaB
  isplitl [Hov]; · iexact Hov
  iexact Ho

end Cert.Butterfly

end
-- ==== Proof.Whole.lean ====
/-
# The whole body, run

The local copies, the whole body of one device, and that it meets what the launch asks of it.
-/
module

public import proofs.«01_k».proof.Proof.Device
public import Idealize.ShloMosaic.Lib.Rounds.Family

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Cell → ℕ)

abbrev t0M : Memref sig .tc .hbm S512x256 .bf16 := Memref.whole main_arg0
abbrev w0M : Memref sig .tc .hbm S256x256 .bf16 := Memref.whole main_arg1
abbrev tM : Memref sig .tc .vmem S512x256 .bf16 := Memref.whole cc0_scratch0
abbrev wM : Memref sig .tc .vmem S256x256 .bf16 := Memref.whole cc0_scratch1

/-! ## The local copies -/

/-- A local copy begun: it pays this device's own cell `i`. -/
theorem wp_copyIn (c : Dev nD) (Q : PUnit → sProp 𝕄) (i : Fin 2) {s : Shape} {src : Memref sig .tc .hbm s .bf16} {dst : Memref sig .tc .vmem s .bf16}
    {hsrc : src.view.WordExact} {hdst : dst.view.WordExact} {hsem : DmaTarget.Typed (nD := nD) (τ := τ) (p := .tc) .hbm (.dma (inSem cc0_scratch2 i).sem) (.here dst)}
    (fs : Buf (Elt F) (src.view.loc (c : Thread nD τ))) (fd : Buf (Elt F) (dst.view.loc (c : Thread nD τ)))
    (hN : dst.view.amount (.dma (inSem cc0_scratch2 i).sem) = inN i)
    (hpay : iprop((dst.view.loc (c : Thread nD τ) ↦[dst.view.set]{fullShare} (dst.view.write (Elt F) fd (src.view.read (Elt F) fs) Finset.univ))
      ∗ (src.view.loc (c : Thread nD τ) ↦[src.view.set]{fullShare} fs)) ⊢ inPay m c i) (k : PUnit → P F) :
    iprop(known m K ∗ (src.view.loc (c : Thread nD τ) ↦[src.view.set]{fullShare} fs) ∗ (dst.view.loc (c : Thread nD τ) ↦[dst.view.set]{fullShare} fd)
        ∗ dutyTok ER (kcell (c, inC i)) 0 0 ∗ (cred (tallyAt (kcell (c, inC i)) () (inN i)) -∗ WP c (k ⟨⟩) Q))
      ⊢ WP c (.op (.enqueueDma src (.here dst) (.dma (inSem cc0_scratch2 i).sem) hsrc hdst hsem) k) Q := by
  iintro ⟨#HK, Hs, Hd, Ht, Hk⟩
  iapply (Rounds.wp_copy_pointsTo 𝒱₀ ER (sched m) (c : Thread nD τ) none (κ := K (c, inC i)) (src := src) (dst := dst) (sem := csem (inC i))
      (q := fullShare) (fs := fs) (fd := fd) (r := 0) (d := 0)
      (by rw [show ((c : Thread nD τ), csem (inC i)) = kcell (c, inC i) from rfl, duties_eq]; exact Finset.mem_singleton_self _) () (inN i) hN
      (amount_eq m c (inC i) 0) (hpay.trans (Entails.of_eq (payload_eq m c (inC i) 0).symm))) $$ [Hs Hd Ht]
  · isplitr; · iapply (known_inv m K (c, inC i)); iexact HK
    isplitl [Hs]; · iexact Hs
    isplitl [Hd]; · iexact Hd
    isplitl [Ht]; · iexact Ht
    iapply (known_reached m K (c, inC i)); iexact HK
  iexact Hk

/-- A local copy waited for: the copy and the original are back. -/
theorem wp_copyWait (c : Dev nD) (Q : PUnit → sProp 𝕄) (i : Fin 2) (l : List (Dev nD × Cell)) (hl : ∀ a ∈ l, 0 < lvC a.2)
    {s : Shape} {src : Memref sig .tc .hbm s .bf16} {dst : Memref sig .tc .vmem s .bf16} {hsrc : src.view.WordExact} {hdst : dst.view.WordExact}
    (hN : dst.view.dmaCredit = inN i) (k : PUnit → P F) :
    iprop(known m K ∗ owing c l ∗ atPos ER (kcell (c, inC i)) 0 ∅ 0 ∗ cred (tallyAt (kcell (c, inC i)) () (inN i))
        ∗ ((owing c l ∗ atPos ER (kcell (c, inC i)) 1 ∅ 0 ∗ inPay m c i) -∗ WP c (k ⟨⟩) Q))
      ⊢ WP c (.op (.waitDma2 (inSem cc0_scratch2 i).sem src dst hsrc hdst) k) Q := by
  unfold owing
  iintro ⟨#HK, ⟨%W, HO⟩, Ha, Hc, Hk⟩
  rw [← hN]
  iapply (Rounds.wp_wait_rest_token 𝒱₀ ER (sched m) (c : Thread nD τ) none (κ := K (c, inC i))
      (wpE_waitDma2_eq 𝒱₀ (c : Thread nD τ) none Set.univ) (Set.mem_univ _) () (O := debt l) (W := W) (R := 0) (m := 0) (T := ∅)
      (by rw [show ((c : Thread nD τ), SemLoc.dma (inSem cc0_scratch2 i).sem) = kcell (c, .inr (.inl i)) from rfl, expect_own]; exact (Nat.zero_add _).trans hN)) $$ [Hc HO Ha]
  · isplitr; · iapply (known_inv m K (c, inC i)); iexact HK
    isplitl [Hc]; · iexact Hc
    isplitl [HO]; · iexact HO
    isplitr
    · iapply ((known_lev m K).trans (mayWait c (.dma (inSem cc0_scratch2 i).sem) 0 (lv_cell (c, inC i) ()).le l hl)); iexact HK
    iexact Ha
  iintro ⟨HO, Ha, -, Hp⟩
  ihave Hp := (show bigSep ((sched (F := F) m).duties ((c : Thread nD τ), SemLoc.dma (inSem cc0_scratch2 i).sem) 0 \ ∅)
      (fun d => (sched (F := F) m).payload ((c : Thread nD τ), SemLoc.dma (inSem cc0_scratch2 i).sem) 0 d) ⊢ inPay m c i from
      Entails.of_eq (rest_own m c (.inl i))) $$ Hp
  iapply Hk
  isplitl [HO]
  · iexists _; iexact HO
  isplitl [Ha]; · iexact Ha
  iexact Hp

/-! ## The whole body -/

/-- The body on this program's buffers. -/
abbrev bodyHere : P F :=
  body t0M (Memref.isWhole_whole _) w0M (Memref.isWhole_whole _) oM oW tM (Memref.isWhole_whole _) wM (Memref.isWhole_whole _) cc0_scratch2 sM sW rM rW
    cc0_scratch5 cc0_scratch6

theorem bodyHere_eq : bodyHere (F := F) =
    (.op .deviceId fun d =>
      steps [0, 1, 2, 3] (signalStep d) <|
      .op (.enqueueDma t0M (.here tM) (.dma (inSem cc0_scratch2 0).sem) (Memref.isWhole_whole _).wordExact (Memref.isWhole_whole _).wordExact ⟨Or.inl rfl, trivial⟩) fun _ =>
      .op (.enqueueDma w0M (.here wM) (.dma (inSem cc0_scratch2 1).sem) (Memref.isWhole_whole _).wordExact (Memref.isWhole_whole _).wordExact ⟨Or.inl rfl, trivial⟩) fun _ =>
      .op (.waitDma2 (inSem cc0_scratch2 0).sem t0M tM (Memref.isWhole_whole _).wordExact (Memref.isWhole_whole _).wordExact) fun _ =>
      .op (.waitDma2 (inSem cc0_scratch2 1).sem w0M wM (Memref.isWhole_whole _).wordExact (Memref.isWhole_whole _).wordExact) fun _ =>
      .op (.load tM (Rect.unit (s := S512x256) ![0, 0] S512x256.size inb_S512x256_S512x256_0_0).toLoadRect (View.loadsAt_vmem h_S512x256)) fun x =>
      .op (.load wM (Rect.unit (s := S256x256) ![0, 0] S256x256.size inb_S256x256_S256x256_0_0).toLoadRect (View.loadsAt_vmem h_S256x256)) fun w =>
      tail d (product x w) (.ret ⟨⟩)) := rfl

/-- What a device ends with. -/
def done (c : Dev nD) : sProp 𝕄 :=
  iprop(owing c [] ∗ (bigSep Finset.univ fun k : Cell => semVal (kcell (c, k)) 0) ∗ args m c ∗ scratch c
    ∗ (((c : Thread nD τ).loc cc0_stg0_0) ↦{fullShare} (outAll (prod m) c)))

theorem hz : (![0, 0] : Fin 2 → Nat) = fun _ => 0 := funext fun a => by fin_cases a <;> rfl
theorem read_t (f : Vec F S512x256 .bf16) :
    tM.view.readAt (Elt F) (Rect.unit (s := S512x256) ![0, 0] S512x256.size inb_S512x256_S512x256_0_0).toLoadRect f = f :=
  Memref.readAt_unit_zero (Elt F) cc0_scratch0 hz _ f
theorem read_w (f : Vec F S256x256 .bf16) :
    wM.view.readAt (Elt F) (Rect.unit (s := S256x256) ![0, 0] S256x256.size inb_S256x256_S256x256_0_0).toLoadRect f = f :=
  Memref.readAt_unit_zero (Elt F) cc0_scratch1 hz _ f

/-- The copy of the local block lands whole, -/
theorem landed_t (c : Dev nD) (f : Vec F S512x256 .bf16) :
    iprop((tM.view.loc (c : Thread nD τ) ↦[tM.view.set]{fullShare} (tM.view.write (Elt F) f (t0M.view.read (Elt F) (tX m c)) Finset.univ))
      ∗ (t0M.view.loc (c : Thread nD τ) ↦[t0M.view.set]{fullShare} (tX m c))) ⊢ inPay m c 0 := by
  have hw : tM.view.write (Elt F) f (t0M.view.read (Elt F) (tX m c)) Finset.univ = tX m c := View.write_whole_univ cc0_scratch0 f (tX m c)
  rw [hw]
  simp only [Memref.view_whole, View.set_whole]
  unfold inPay
  exact Entails.refl _
/-- and that of the weights. -/
theorem landed_w (c : Dev nD) (f : Vec F S256x256 .bf16) :
    iprop((wM.view.loc (c : Thread nD τ) ↦[wM.view.set]{fullShare} (wM.view.write (Elt F) f (w0M.view.read (Elt F) (wX m c)) Finset.univ))
      ∗ (w0M.view.loc (c : Thread nD τ) ↦[w0M.view.set]{fullShare} (wX m c))) ⊢ inPay m c 1 := by
  have hw : wM.view.write (Elt F) f (w0M.view.read (Elt F) (wX m c)) Finset.univ = wX m c := View.write_whole_univ cc0_scratch1 f (wX m c)
  rw [hw]
  simp only [Memref.view_whole, View.set_whole]
  unfold inPay
  exact Entails.refl _

/-- All cells closed: their counters are zero. -/
theorem close (c : Dev nD) : iprop(known m K ∗ poss (F := F) c 1) ⊢ |={Set.univ}=> bigSep Finset.univ fun k : Cell => semVal (kcell (c, k)) 0 := by
  refine BI.Entails.trans ?_ (Rounds.cells_close ER (sched m) Finset.univ (fun k : Cell => kcell (c, k)) (fun k => K (c, k)) (fun _ _ => Set.mem_univ _)
    (fun _ _ h => h) (fun _ => 1) (fun k _ => duties_later m (kcell (c, k))))
  rw [bigSep_sep']
  unfold poss
  exact sep_mono_left ((bigSep_of_persistent Finset.univ (known m K)).trans (bigSep_mono fun (k : Cell) _ => known_inv m K (c, k)))

/-- The whole body, run. -/
theorem wp_body (c : Dev nD) (Q : PUnit → sProp 𝕄) :
    iprop(known m K ∗ owing c (dues c) ∗ poss c 0 ∗ toks c ∗ creds c ∗ args m c ∗ scratch c
        ∗ (∃ f : Vec F S512x256 .bf16, ((c : Thread nD τ).loc cc0_stg0_0) ↦{fullShare} f) ∗ (done m c -∗ Q ⟨⟩))
      ⊢ WP c bodyHere Q := by
  rw [bodyHere_eq]
  unfold poss toks creds args scratch
  rw [cells_split, two]
  iintro ⟨#HK, HO, ⟨HaB, ⟨HaI0, HaI1⟩, HaS, HaR⟩, ⟨HtB, ⟨HtI0, HtI1⟩, HtS, HtR⟩, ⟨HcB, HcR⟩, ⟨Hx, Hw⟩, ⟨⟨%f0, Hs0⟩, ⟨%f1, Hs1⟩, Hs3, Hs4⟩, Ho, Hk⟩
  simp only [wp_deviceId]
  iapply (wp_signals m K c Q)
  isplitr; · iexact HK
  isplitl [HO]; · iexact HO
  isplitl [HtB Hs4]
  · rw [bigSep_sep']
    isplitl [HtB]; · iexact HtB
    iapply (given_pieces c); iexact Hs4
  iintro HO
  iapply (wp_copyIn m K c Q 0 (src := t0M) (dst := tM) (tX m c) f0 rfl (landed_t m c f0))
  isplitr; · iexact HK
  isplitl [Hx]; · simp only [Memref.view_whole, View.set_whole]; iexact Hx
  isplitl [Hs0]; · simp only [Memref.view_whole, View.set_whole]; iexact Hs0
  isplitl [HtI0]; · iexact HtI0
  iintro HcI0
  iapply (wp_copyIn m K c Q 1 (src := w0M) (dst := wM) (wX m c) f1 rfl (landed_w m c f1))
  isplitr; · iexact HK
  isplitl [Hw]; · simp only [Memref.view_whole, View.set_whole]; iexact Hw
  isplitl [Hs1]; · simp only [Memref.view_whole, View.set_whole]; iexact Hs1
  isplitl [HtI1]; · iexact HtI1
  iintro HcI1
  iapply (wp_copyWait m K c Q 0 (sendDues c [0, 1, 2, 3]) (sendDues_lv fun r _ => by omega) rfl)
  isplitr; · iexact HK
  isplitl [HO]; · iexact HO
  isplitl [HaI0]; · iexact HaI0
  isplitl [HcI0]; · iexact HcI0
  iintro ⟨HO, HaI0, Hp0⟩
  iapply (wp_copyWait m K c Q 1 (sendDues c [0, 1, 2, 3]) (sendDues_lv fun r _ => by omega) rfl)
  isplitr; · iexact HK
  isplitl [HO]; · iexact HO
  isplitl [HaI1]; · iexact HaI1
  isplitl [HcI1]; · iexact HcI1
  iintro ⟨HO, HaI1, Hp1⟩
  unfold inPay
  icases Hp0 with ⟨Hs0, Hx⟩
  icases Hp1 with ⟨Hs1, Hw⟩
  iapply (wp_load 𝒱₀ (c : Thread nD τ) none Set.univ (m := tM) (Finset.subset_univ _)) $$ Hs0; iintro Hs0
  rw [read_t]
  iapply (wp_load 𝒱₀ (c : Thread nD τ) none Set.univ (m := wM) (Finset.subset_univ _)) $$ Hs1; iintro Hs1
  rw [read_w, show product (tX m c) (wX m c) = prod m c from rfl]
  iapply (wp_tail m K c Q (.ret ⟨⟩))
  isplitr; · iexact HK
  isplitl [HO]; · iexact HO
  isplitl [HaS HaR HtS HtR HcR]
  · rw [pres]
    isplitl [HaS]; · iexact HaS
    isplitl [HaR]; · iexact HaR
    isplitl [HtS HtR]
    · isplitl [HtS]; · iexact HtS
      iexact HtR
    iexact HcR
  isplitl [Hs3]; · iapply (free_pieces c); iexact Hs3
  isplitl [HaB]; · iexact HaB
  isplitl [HcB]; · iexact HcB
  isplitl [Ho]; · iapply (any_rows c); iexact Ho
  iintro ⟨HO, HaB, Hov, Ho⟩
  ihave Hov := (Entails.of_eq (overs m c)) $$ Hov
  icases Hov with ⟨HaS, HaR, Hr, Hs⟩
  imod (close m K c) $$ [HaB HaI0 HaI1 HaS HaR] with Hz
  · isplitr; · iexact HK
    unfold poss
    rw [cells_split]
    isplitl [HaB]; · iexact HaB
    isplitl [HaI0 HaI1]
    · isplitl [HaI0]; · iexact HaI0
      iexact HaI1
    isplitl [HaS]; · iexact HaS
    iexact HaR
  rw [wp_ret]; imodintro
  iapply Hk
  unfold done args scratch
  isplitl [HO]; · iexact HO
  isplitl [Hz]; · iexact Hz
  isplitl [Hx Hw]
  · isplitl [Hx]; · iexact Hx
    iexact Hw
  isplitl [Hs0 Hs1 Hs Hr]
  · isplitl [Hs0]; · iexists _; iexact Hs0
    isplitl [Hs1]; · iexists _; iexact Hs1
    isplitl [Hs]
    · iexists (sendAll (prod m) c)
      iapply (Entails.of_eq (send_pieces c (sendAll (prod m) c)).symm); iexact Hs
    iexists (recvAll (prod m) c)
    iapply (Entails.of_eq (recv_pieces c (recvAll (prod m) c)).symm); iexact Hr
  iapply (Entails.of_eq (out_pieces c (outAll (prod m) c)).symm); iexact Ho

end Cert.Butterfly

end
-- ==== Proof.Launch.lean ====
/-
# The launch

The body meets the launch's obligation; the launch deals every device its cells, rights and credits; the run follows.
-/
module

public import proofs.«01_k».proof.Proof.Whole
public import proofs.«01_k».proof.Proof.Gen.KernelIdeal.Points

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- What a device starts from; -/
def start (c : Dev nD) : sProp 𝕄 := iprop((∃ K, known m K) ∗ poss c 0 ∗ toks c ∗ creds c ∗ args m c)
/-- with its scratches; -/
def Φ₀ (c : Dev nD) : sProp 𝕄 := iprop(start m c ∗ scratch c)
/-- and what it ends with: every counter at zero, the arguments and scratches. -/
def Φ₁ (c : Dev nD) : sProp 𝕄 := iprop((bigSep Finset.univ fun k : Cell => semVal (kcell (c, k)) 0) ∗ args m c ∗ scratch c)

def dats (_ : Fin 1) (c : Dev nD) : Dat τ (Elt F) Unit ℕ UU ℕ cfg0 c where
  A w := m ((cfg0.win w).arr.view.loc (c : Thread nD τ))
  after w _ := match w with
    | ⟨0, _⟩ => outAll (prod m) c
  Φ t := match t with
    | ⟨0, _⟩ => Φ₀ m c
    | ⟨_ + 1, _⟩ => Φ₁ m c
  q _ := fullShare
  owed t := match t with
    | ⟨0, _⟩ => debt (dues c)
    | ⟨_ + 1, _⟩ => 0

theorem owns_whole_eq (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) (((c : Dev nD) : Thread nD τ).loc b), ⌜f = v⌝ ∗ (((c : Thread nD τ).loc b) ↦{fullShare} f)) := by
  unfold owns; simp only [Memref.view_whole, View.read_whole, View.set_whole]

/-- The output's staging buffer at given contents. -/
abbrev stg (c : Dev nD) (v : Vec F S512x256 .bf16) : sProp 𝕄 :=
  iprop(∃ f : Buf (Elt F) (((c : Dev nD) : Thread nD τ).loc cc0_stg0_0), ⌜f = v⌝ ∗ (((c : Thread nD τ).loc cc0_stg0_0) ↦{fullShare} f))

def bodyPre (c : Dev nD) : sProp 𝕄 :=
  iprop(Φ₀ m c ∗ (dats m 0 c).owesAt () t0_0.castSucc ∗ (∃ d, stg c ((dats m 0 c).before (0 : Fin 1) t0_0 d)))
def bodyPost (c : Dev nD) : sProp 𝕄 :=
  iprop(Φ₁ m c ∗ (dats m 0 c).owesAt () t0_0.succ ∗ stg c (outAll (prod m) c))

theorem sound_body (c : Dev nD) : bodyPre m c ⊢ WP c bodyHere (fun _ => bodyPost m c) := by
  unfold bodyPre Φ₀ start Dat.owesAt Pipeline.owesWithin
  rw [show (dats m 0 c).owed t0_0.castSucc = debt (dues c) from rfl]
  iintro ⟨⟨⟨⟨%K, HK⟩, Hp, Ht, Hc, Ha⟩, Hs⟩, ⟨%W, %hW, HO⟩, ⟨%d, %f, -, Ho⟩⟩
  iapply (wp_body m K c (fun _ => bodyPost m c))
  isplitl [HK]; · iexact HK
  isplitl [HO]
  · unfold owing; iexists W; iexact HO
  isplitl [Hp]; · iexact Hp
  isplitl [Ht]; · iexact Ht
  isplitl [Hc]; · iexact Hc
  isplitl [Ha]; · iexact Ha
  isplitl [Hs]; · iexact Hs
  isplitl [Ho]; · iexists f; iexact Ho
  unfold done owing bodyPost Φ₁ Dat.owesAt Pipeline.owesWithin
  rw [show (dats m 0 c).owed t0_0.succ = debt [] from rfl]
  iintro ⟨⟨%W', HO⟩, Hz, Ha, Hs, Ho⟩
  isplitl [Hz Ha Hs]
  · isplitl [Hz]; · iexact Hz
    isplitl [Ha]; · iexact Ha
    iexact Hs
  isplitl [HO]
  · iexists W'
    isplitr; · ipureintro; exact fun _ _ => Or.inl trivial
    iexact HO
  iexists _
  isplitr; · (ipureintro; rfl)
  iexact Ho

set_option maxRecDepth 4000 in
/-- It is the body the launch calls. -/
theorem body_at : bodyHere (F := F) = bodyAt0 t0_0 :=
  (congrArg (fun b => b t0M (Memref.isWhole_whole _) w0M (Memref.isWhole_whole _) oM oW tM (Memref.isWhole_whole _)
    wM (Memref.isWhole_whole _) cc0_scratch2 sM sW rM rW cc0_scratch5 cc0_scratch6) (cc0_body_eq (F := F))).symm

set_option maxRecDepth 4000 in
/-- The launch's obligation on a device. -/
theorem body_obligation (c : Dev nD) : BodyObligation (dats (F := F) m 0 c) (defs₀ (F := F)) 𝒱₀ () Set.univ := fun t => by
  rw [fin_N0 t, bigSep_W0, bigSep_W0]
  simp only [owns_whole_eq]
  have h := sound_body m c
  rw [body_at] at h
  have e : defs₀ (F := F) Proc.tc 0 (t0_0, cfg0.slots t0_0) = bodyAt0 t0_0 := rfl
  rw [e]
  have e1 : (dats m 0 c).after 0 t0_0 = outAll (prod m) c := rfl
  have e2 : (dats m 0 c).Φ t0_0.succ = Φ₁ m c := rfl
  have e3 : (dats m 0 c).Φ t0_0.castSucc = Φ₀ m c := rfl
  rw [e1, e2, e3]
  unfold bodyPre bodyPost at h
  generalize bodyAt0 (F := F) t0_0 = b at h ⊢
  exact h

/-! ## The launch's ghost state -/

theorem ownSemFacts : Pipeline.OwnSemFacts cfg0.spec osem := by decide +kernel
theorem share_eq (c : Dev nD) (w : Fin cfg0.W) : (dats m 0 c).share w = fullShare := by unfold Dat.share; split <;> rfl

def allCells : Finset (GSem nD τ sig) := Finset.univ.map ⟨kcell, kcell_injective⟩
/-- The duties, by the cell's device: four of its barrier cell, one of each other cell. -/
abbrev tokOf (t : Dev nD × (Fin 4 ⊕ Own)) : GSem nD τ sig × ℕ × Fin 4 := match t.2 with
  | .inl i => (kcell (t.1, barC), 0, i)
  | .inr k => (kcell (t.1, .inr k), 0, 0)
theorem tokOf_injective : Function.Injective tokOf := by
  rintro ⟨c, a | a⟩ ⟨d, b | b⟩ h
  · have h1 := congrArg (fun z : Dev nD × Cell => z.1) (kcell_injective (congrArg Prod.fst h))
    have h2 : a = b := congrArg (fun z : GSem nD τ sig × ℕ × Fin 4 => z.2.2) h
    exact Prod.ext h1 (congrArg Sum.inl h2)
  · exact absurd (congrArg Prod.snd (kcell_injective (congrArg Prod.fst h))) (by simp)
  · exact absurd (congrArg Prod.snd (kcell_injective (congrArg Prod.fst h))) (by simp)
  · have h1 : ((c, .inr a) : Dev nD × Cell) = (d, .inr b) := kcell_injective (congrArg Prod.fst h)
    obtain ⟨rfl, h2⟩ := Prod.mk.inj h1
    exact congrArg (fun z => (c, (Sum.inr z : Fin 4 ⊕ Own))) (Sum.inr.inj h2)
def allToks : Finset (GSem nD τ sig × ℕ × Fin 4) := Finset.univ.map ⟨tokOf, tokOf_injective⟩

def u₀ : UU := (initOf (Pipeline.cells cfgs cellOf_inj) (Pipeline.launchToks cfgs cellOf_inj), initOf allCells allToks)

/-- The tokens of the duties of device `c`'s own cells. -/
def minted (c : Dev nD) : sProp 𝕄 :=
  iprop((bigSep Finset.univ fun i : Fin 4 => dutyTok ER (kcell (c, barC)) 0 i) ∗ bigSep Finset.univ fun k : Own => dutyTok ER (kcell (c, .inr k)) 0 0)

/-- What is dealt to device `c`; -/
def G (c : Dev nD) : sProp 𝕄 :=
  iprop((bigSep Finset.univ fun k : Cell => roundState ER (sched m) (kcell (c, k)) 0)
    ∗ (bigSep Finset.univ fun k : Cell => iprop(atPos ER (kcell (c, k)) 0 ∅ 0 ∗ reached ER (kcell (c, k)) 0)) ∗ minted c)

def recs (K : Dev nD × Cell → ℕ) : sProp 𝕄 :=
  iprop((bigSep Finset.univ fun ck : Dev nD × Cell => cellInv ER (sched m) (K ck) (kcell ck))
    ∗ bigSep Finset.univ fun ck : Dev nD × Cell => reached ER (kcell ck) 0)
instance recs_persistent (K : Dev nD × Cell → ℕ) : BI.Persistent (recs m K) := by unfold recs; infer_instance
/-- and what the devices make of it together. -/
def G' (c : Dev nD) : sProp 𝕄 := iprop((∃ K, recs m K) ∗ poss c 0 ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => minted c := by
    unfold allToks; rw [bigSep_map, bigSep_univ_prod]
    exact bigSep_congr fun c _ => by unfold minted; rw [bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

theorem unscopedSems0_eq (c : Dev nD) : (unscopedSems0 c : sProp 𝕄) = semVal (kcell (c, barC)) 0 := by
  unfold unscopedSems0; rw [bigSep_eq_bigSepL_of_eq [SemLoc.reg barSem.sem] (by decide +kernel) (by decide)]; rfl

/-- The counters the launch hands over are those of the cells. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun k : Cell => semVal (kcell (c, k)) 0 : sProp 𝕄) := by
  rw [unscopedSems0_eq, bigSep_univ_sum, one]
  unfold Pipeline.ownSems0
  exact equiv_iff.mp ⟨BI.sep_comm, BI.sep_comm⟩

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (sched m) κ (kcell (c, k))))
          ∗ (bigSep Finset.univ fun k : Cell => iprop(atPos ER (kcell (c, k)) 0 ∅ 0 ∗ reached ER (kcell (c, k)) 0)) ∗ minted c) := by
  unfold G
  iintro ⟨Hos, Hus, Hst, Hat, Htok⟩
  ihave Hv := (Entails.of_eq (sems0_eq (F := F) c)) $$ [Hos Hus]
  · isplitl [Hos]; · iexact Hos
    iexact Hus
  imod (show iprop((bigSep Finset.univ fun k : Cell => semVal (kcell (c, k)) 0) ∗ bigSep Finset.univ fun k : Cell => roundState ER (sched m) (kcell (c, k)) 0)
      ⊢ (|={Set.univ}=> bigSep Finset.univ fun k : Cell => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- Partners swap: each pays the other's barrier duty, -/
def swapBar : Dev nD × Fin 4 ≃ Dev nD × Fin 4 where
  toFun z := (peer 0 z.2 z.1, z.2)
  invFun z := (peer 0 z.2 z.1, z.2)
  left_inv z := by simp [peer_peer]
  right_inv z := by simp [peer_peer]
/-- and each fills the other's chunk. -/
def swapRecv : Dev nD × X ≃ Dev nD × X where
  toFun z := (peerX z.2 z.1, z.2)
  invFun z := (peerX z.2 z.1, z.2)
  left_inv z := by simp [peerX_peerX]
  right_inv z := by simp [peerX_peerX]

theorem toks_bar : (bigSep Finset.univ fun c : Dev nD => bigSep Finset.univ fun i : Fin 4 => (dutyTok ER (kcell (c, barC)) 0 i : sProp 𝕄))
    = bigSep Finset.univ fun c : Dev nD => bigSep Finset.univ fun i : Fin 4 => dutyTok ER (kcell (peer 0 i c, barC)) 0 i := by
  rw [← bigSep_univ_prod (fun z : Dev nD × Fin 4 => (dutyTok ER (kcell (z.1, barC)) 0 z.2 : sProp 𝕄)),
    bigSep_univ_equiv swapBar, ← bigSep_univ_prod (fun z : Dev nD × Fin 4 => (dutyTok ER (kcell (peer 0 z.2 z.1, barC)) 0 z.2 : sProp 𝕄))]
  rfl
theorem toks_recv : (bigSep Finset.univ fun c : Dev nD => bigSep Finset.univ fun x : X => (dutyTok ER (kcell (c, recvC x)) 0 0 : sProp 𝕄))
    = bigSep Finset.univ fun c : Dev nD => bigSep Finset.univ fun x : X => dutyTok ER (kcell (peerX x c, recvC x)) 0 0 := by
  rw [← bigSep_univ_prod (fun z : Dev nD × X => (dutyTok ER (kcell (z.1, recvC z.2)) 0 0 : sProp 𝕄)),
    bigSep_univ_equiv swapRecv, ← bigSep_univ_prod (fun z : Dev nD × X => (dutyTok ER (kcell (peerX z.2 z.1, recvC z.2)) 0 0 : sProp 𝕄))]
  rfl
/-- All tokens, dealt to those who pay. -/
theorem toks_around : (bigSep Finset.univ fun c : Dev nD => (minted c : sProp 𝕄)) = bigSep Finset.univ fun c : Dev nD => toks c := by
  have h : ∀ c : Dev nD, (minted c : sProp 𝕄) = iprop((bigSep Finset.univ fun i : Fin 4 => dutyTok ER (kcell (c, barC)) 0 i)
      ∗ (bigSep Finset.univ fun i : Fin 2 => dutyTok ER (kcell (c, inC i)) 0 0) ∗ (bigSep Finset.univ fun x : X => dutyTok ER (kcell (c, sendC x)) 0 0)
      ∗ bigSep Finset.univ fun x : X => dutyTok ER (kcell (c, recvC x)) 0 0) := fun c => by
    unfold minted; rw [bigSep_univ_sum (fun k : Own => (dutyTok ER (kcell (c, .inr k)) 0 0 : sProp 𝕄)), bigSep_univ_sum]; rfl
  rw [bigSep_congr fun c _ => h c]
  unfold toks
  rw [bigSep_sep', bigSep_sep', bigSep_sep', toks_bar, toks_recv, bigSep_sep', bigSep_sep', bigSep_sep']

theorem with_recs (K : Dev nD × Cell → ℕ) : iprop(recs m K ∗ bigSep Finset.univ fun c : Dev nD => iprop(poss c 0 ∗ toks c)) ⊢ bigSep Finset.univ (G' m) := by
  refine BI.Entails.trans (sep_mono_left (BI.bigSep_of_persistent (Finset.univ : Finset (Dev nD)) (recs m K))) ?_
  rw [← bigSep_sep']
  exact bigSep_mono fun c _ => by unfold G'; exact sep_mono_left (exists_intro (Φ := fun K => recs m K) K)

theorem regroup :
    (bigSep Finset.univ fun c : Dev nD => iprop((bigSep Finset.univ fun k : Cell => iprop(∃ κ : ℕ, cellInv ER (sched m) κ (kcell (c, k))))
          ∗ (bigSep Finset.univ fun k : Cell => iprop(atPos ER (kcell (c, k)) 0 ∅ 0 ∗ reached ER (kcell (c, k)) 0)) ∗ minted c) : sProp 𝕄)
      ⊢ bigSep Finset.univ (G' m) := by
  rw [bigSep_sep', bigSep_sep', ← bigSep_univ_prod (fun ck : Dev nD × Cell => iprop(∃ κ : ℕ, cellInv ER (sched m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄)), toks_around]
  iintro ⟨HI, ⟨Hat, HR⟩, Htok⟩
  ihave HK := (BI.bigSep_exists_pi Finset.univ (fun (ck : Dev nD × Cell) (κ : ℕ) => (cellInv ER (sched m) κ (kcell ck) : sProp 𝕄))) $$ HI
  icases HK with ⟨%K, HI⟩
  iapply (with_recs m K)
  isplitl [HI HR]
  · unfold recs
    isplitl [HI]; · iexact HI
    iexact HR
  rw [bigSep_sep']
  isplitl [Hat]
  · unfold poss; iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Butterfly

end
-- ==== Proof.Run.lean ====
/-
# The run

From any memory with zero counters: every weakly fair execution ends with every device's result at the computed contents.
-/
module

public import proofs.«01_k».proof.Proof.Launch
public import Idealize.ShloMosaic.Lib.Pipeline.CollectiveSegs
public import Idealize.ShloMosaic.Lib.Quiescent
public import Idealize.ShloMosaic.Lib.Pipeline.ValueKit

@[expose] public section

noncomputable section

namespace Cert.Butterfly

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Who owes what to whom -/

/-- What each device owes at the start. -/
def O₀ (d : Dev nD) : CellTallies nD τ sig Unit := debt (dues d)

theorem sum_bar : ∀ c : Dev nD, ∑ d : Dev nD, (dues d).countP (fun a => decide (a = (c, barC))) = 4 := by decide +kernel
/-- Among a device's dues, those of a receive counter: one, to its partner. -/
theorem filter_recv : ∀ (d : Dev nD) (x : X), (dues d).filter (fun a => decide (a.2 = recvC x)) = [(peerX x d, recvC x)] := by decide +kernel

theorem count_recv (c d : Dev nD) (x : X) : (dues d).countP (fun a => decide (a = (c, recvC x))) = if d = peerX x c then 1 else 0 := by
  have h : (fun a : Dev nD × Cell => decide (a = (c, recvC x))) = fun a => decide (a.1 = c) && decide (a.2 = recvC x) :=
    funext fun a => by rw [← Bool.decide_and]; exact decide_eq_decide.mpr Prod.ext_iff
  rw [h, ← List.countP_filter, filter_recv, List.countP_singleton]
  refine if_congr ?_ rfl rfl
  rw [decide_eq_true_iff]
  exact ⟨fun e => by rw [← e, peerX_peerX], fun e => by rw [e, peerX_peerX]⟩

theorem launch_bar (c : Dev nD) :
    tallyOn (kcell (c, barC)) (launchCredit (Pipeline.owing O₀) 0 (kcell (c, barC))) = (tallyAt (kcell (c, barC)) () 4 : CellTallies nD τ sig Unit) := by
  unfold tallyAt; refine congrArg _ (Finsupp.ext fun u => ?_); cases u
  rw [Pipeline.launchCredit_owing, Finsupp.single_eq_same, ← sum_bar c]
  exact Finset.sum_congr rfl fun d _ => (debt_apply _ _ _).trans (Nat.mul_one _)

theorem launch_recv (c : Dev nD) (x : X) :
    tallyOn (kcell (c, recvC x)) (launchCredit (Pipeline.owing O₀) 0 (kcell (c, recvC x))) = (tallyAt (kcell (c, recvC x)) () N : CellTallies nD τ sig Unit) := by
  unfold tallyAt; refine congrArg _ (Finsupp.ext fun u => ?_); cases u
  rw [Pipeline.launchCredit_owing, Finsupp.single_eq_same,
    Finset.sum_congr rfl fun d _ => show O₀ d (kcell (c, recvC x)) () = (if d = peerX x c then 1 else 0) * N from
      (debt_apply (dues d) (c, recvC x) ()).trans (by rw [count_recv]; rfl), ← Finset.sum_mul,
    Finset.sum_ite_eq' Finset.univ (peerX x c) fun _ => 1, if_pos (Finset.mem_univ _), Nat.one_mul]

/-- The credits a device is given at the launch. -/
theorem creds_intro (c : Dev nD) : (Pipeline.launchCred O₀ c : sProp 𝕄) ⊢ creds c := by
  have h : (Pipeline.launchCred O₀ c : sProp 𝕄)
      ⊢ bigSep Finset.univ fun k : Cell => cred (tallyOn (kcell (c, k)) (launchCredit (Pipeline.owing O₀) 0 (kcell (c, k)))) := by
    unfold Pipeline.launchCred
    refine (bigSep_subset (Finset.subset_univ (Finset.univ.map ⟨csem, csem_injective⟩))).trans ?_
    rw [bigSep_map]; exact BI.Entails.refl _
  rw [cells_split, launch_bar, bigSep_congr (s := Finset.univ) fun x _ => congrArg cred (launch_recv c x)] at h
  unfold creds
  iintro H
  ihave H' := h $$ H
  icases H' with ⟨HB, -, -, HR⟩
  isplitl [HB]; · iexact HB
  iexact HR

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, show Pipeline.unscopedRest cfg0.spec c _ = _ from unscopedRest0_eq c _]
  unfold G'
  iintro ⟨Ha, Hlev, Hcr, -, ⟨%K, HK⟩, Hp, Ht⟩
  ihave Hc := (creds_intro (F := F) c) $$ Hcr
  imodintro
  unfold start known recs levs args
  icases HK with ⟨HI, HR⟩
  isplitl
  · isplitl [HI HR Hlev]
    · iexists K
      isplitl [HI]; · iexact HI
      isplitl [HR]; · iexact HR
      iexact Hlev
    isplitl [Hp]; · iexact Hp
    isplitl [Ht]; · iexact Ht
    isplitl [Hc]; · iexact Hc
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show Pipeline.scopedRest cfg0.spec c = _ from scopedRest0_eq c]
  unfold Φ₀ scratch
  iintro ⟨Hs, -, Hr⟩
  isplitl [Hs]; · iexact Hs
  iexact Hr

theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = Φ₁ m c from rfl, show Pipeline.scopedRest cfg0.spec c = _ from scopedRest0_eq c]
  unfold Φ₁ scratch
  rw [← sems0_eq]
  iintro ⟨⟨Ho, Hu⟩, Ha, Hr⟩
  isplitl [Hu Ha]
  · isplitl [Hu]; · iexact Hu
    iexact Ha
  isplitl [Ho]; · iexact Ho
  iexact Hr

/-- The staging counter is no cell. -/
theorem stage_ne : ∀ (w : Fin cfg0.W) (s : Fin (cfg0.win w).nbuf) (k : Cell), csem k ≠ .dma ((cfg0.win w).sem s) := by decide +kernel

theorem waits (c : Dev nD) : (levAts L lv : sProp 𝕄) ⊢ Pipeline.cellsWaits cfgs (dats m) () 0 c :=
  Pipeline.cellsWaits_intro cfgs (dats m) () 0 c fun w s t => by
    have hn : lv ((c : Thread nD τ), .dma ((cfg0.win w).sem s)) () ≤ 0 := by
      unfold lv; rw [kind_none _ (stage_ne w s)]
    have h := fun l hl => mayWait (F := F) c _ 0 hn l hl
    unfold levs at h
    rcases t with ⟨_ | _, ht⟩
    · exact h (dues c) dues_lv
    · exact h [] (fun _ ha => absurd ha List.not_mem_nil)

/-! ## The run -/

/-- The result array ends at the computed contents. -/
theorem final_eq (c : Dev nD) : (dats m 0 c).arrAt 0 cfg0.N = outAll (prod m) c := by
  refine (dats m 0 c).arrAt_eq_of_after_last 0 t0_0 (by decide +kernel) _ fun j => ?_
  rw [show (dats m 0 c).after 0 t0_0 = outAll (prod m) c from rfl]
  exact congrArg _ (by blk_ext)

/-- What every execution ends with: the results, the arguments as they were, every counter at zero. -/
def Ends (r : PUnit × MemSt nD τ sig (Elt F)) : Prop :=
  (∀ c : Dev nD, r.2.mem ((c : Thread nD τ).loc main_v1) = outAll (prod m) c
    ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

set_option maxRecDepth 100000 in
theorem run_main : θ_run defs (onTc (τ := τ) (main (F := F))) (s₀ m ρ) (Ends m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => by have h := body_obligation m c; exact h) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg0) = m ((c : Thread nD τ).loc main_arg0)
      ∧ s.mem ((c : Thread nD τ).loc main_arg1) = m ((c : Thread nD τ).loc main_arg1))
    (hY := fun c s' => by
      unfold args
      iintro ⟨⟨Hu, H0, H1⟩, -, HSI⟩
      icombine HSI H0 gives %h0
      icombine HSI H1 gives %h1
      imod (Pipeline.unscopedSems0_read (X := unscopedSems0 c) (c := c) fupd_intro s') $$ [Hu HSI] with ⟨%hu, HSI⟩
      · isplitl [Hu] <;> iassumption
      imodintro
      isplitr
      · ipureintro
        exact ⟨hu, funext fun i => h0 i (Finset.mem_univ i), funext fun i => h1 i (Finset.mem_univ i)⟩
      iexact HSI)
    (hQ := fun _ h hs => ⟨fun c => ⟨((h c).1 0).trans (final_eq m c), (h c).2.2.2⟩, sem_eq_zero hs fun c => (h c).2.2.1⟩)

end Cert.Butterfly

end
-- ==== Proof.Sums.lean ====
/-
# The sum over the devices

Four rounds of adding one's partner's sum is the sum over all devices, in whichever order the partners are met; and a
sum of products by one finite factor is the product of the sum.
-/
module

public import proofs.«01_k».proof.Proof.Contents
public import Mathlib.Data.EReal.Operations

@[expose] public section

noncomputable section

namespace Cert.Butterfly

open Cert.KernelIdeal Idealize.ShloMosaic

/-! ## Rounds -/

/-- What device `c` has after `r` rounds of adding its partner's, each device starting with `f`. -/
def totals {α : Type} [Add α] (f : Dev nD → α) (h : Fin 2) : ℕ → Dev nD → α
  | 0, c => f c
  | r + 1, c => totals f h r c + totals f h r (peer h (Fin.ofNat 4 r) c)

/-- The devices whose values a device has after `r` rounds. -/
def reach (h : Fin 2) : ℕ → Dev nD → List (Dev nD)
  | 0, c => [c]
  | r + 1, c => reach h r c ++ reach h r (peer h (Fin.ofNat 4 r) c)

theorem totals_reach {α : Type} [AddCommMonoid α] (f : Dev nD → α) (h : Fin 2) (r : ℕ) (c : Dev nD) :
    totals f h r c = ((reach h r c).map f).sum := by
  induction r generalizing c with
  | zero => exact (add_zero _).symm
  | succ r ih => unfold totals reach; rw [ih, ih, List.map_append, List.sum_append]

/-- After four rounds: every device, once. -/
theorem reach_all : ∀ (h : Fin 2) (c : Dev nD), (reach h 4 c).Perm (List.finRange nD) := by decide +kernel

/-- After four rounds a device has the sum over all devices. -/
theorem totals_all {α : Type} [AddCommMonoid α] (f : Dev nD → α) (h : Fin 2) (c : Dev nD) : totals f h 4 c = ∑ d, f d := by
  rw [totals_reach, ((reach_all h c).map f).sum_eq, Fin.sum_univ_def]

/-! ## Finite values -/

theorem sum_mul_real {ι : Type} (s : Finset ι) (a : ι → ℝ) (w : ℝ) : ∑ d ∈ s, ((a d : EReal) * (w : EReal)) = (∑ d ∈ s, (a d : EReal)) * (w : EReal) := by
  classical
  have h : ∀ (b : ι → ℝ), ∑ d ∈ s, (b d : EReal) = ((∑ d ∈ s, b d : ℝ) : EReal) := fun b => by
    induction s using Finset.induction_on with
    | empty => rfl
    | insert x s hx ih => rw [Finset.sum_insert hx, Finset.sum_insert hx, ih, EReal.coe_add]
  rw [h a, ← EReal.coe_mul, Finset.sum_mul, ← h]
  exact Finset.sum_congr rfl fun d _ => (EReal.coe_mul _ _).symm

/-- A finite factor comes out of a sum of finite values. -/
theorem sum_mul_finite {ι : Type} (s : Finset ι) (a : ι → EReal) (w : EReal) (ha : ∀ d, a d ≠ ⊤ ∧ a d ≠ ⊥) (hw : w ≠ ⊤ ∧ w ≠ ⊥) :
    ∑ d ∈ s, a d * w = (∑ d ∈ s, a d) * w := by
  have h := sum_mul_real s (fun d => (a d).toReal) w.toReal
  simp only [fun d => EReal.coe_toReal (ha d).1 (ha d).2, EReal.coe_toReal hw.1 hw.2] at h
  exact h

/-- A product with a sum of matrices is the sum of the products, all entries finite. -/
theorem sum_products {ι κ : Type} [Fintype ι] [Fintype κ] (a : ι → κ → EReal) (w : κ → EReal) (ha : ∀ d k, a d k ≠ ⊤ ∧ a d k ≠ ⊥)
    (hw : ∀ k, w k ≠ ⊤ ∧ w k ≠ ⊥) : ∑ d, ∑ k, a d k * w k = ∑ k, (∑ d, a d k) * w k := by
  rw [Finset.sum_comm]
  exact Finset.sum_congr rfl fun k _ => sum_mul_finite _ _ _ (fun d => ha d k) (hw k)

end Cert.Butterfly

end
-- ==== Proof.Holds.lean ====
/-
# What the result array holds, over the extended reals

Each element of the all-reduced array is the sum over the devices of the elements of their products, and each element
of a device's product is the sum over the contracted axis.
-/
module

public import proofs.«01_k».proof.Proof.Schedule
public import proofs.«01_k».proof.Proof.Sums
public import Idealize.ShloMosaic.Lib.Pipeline.Value
public import Idealize.ShloMosaic.Lib.MatmulPlain

@[expose] public section

noncomputable section

namespace Cert.Butterfly

open Cert.KernelIdeal Cert.KernelIdeal.Gen Idealize.ShloMosaic Idealize.ShloMosaic.ValueIdx

/-! ## Chunks -/

/-- Element `(i, j)` of a 64-row block keeps its place when the block is read as a chunk of a scratch buffer. -/
theorem chunk_pos (i : Fin 64) (j : Fin 256) :
    (S64x256.rowMajor (bix i j)).val = (S1x1x1x64x256.rowMajor (cix i j)).val := by
  rw [Shape.rowMajor_val_two, Shape.rowMajor_val_five]
  show i.val * 256 + j.val = (((0 * 1 + 0) * 1 + 0) * 64 + i.val) * 256 + j.val
  omega

/-- Row `i` of chunk `ch` of half `h`, as a row of the whole array. -/
def rowIn (h : Fin 2) (ch : Fin 4) (i : Fin 64) : Fin 512 := ⟨row0 h ch + i.val, by have := h.isLt; have := ch.isLt; have := i.isLt; unfold row0; omega⟩

theorem firstPay_at (p : FVec Ideal S512x256 .bf16) (h : Fin 2) (ch : Fin 4) (i : Fin 64) (j : Fin 256) :
    firstPay h ch p (cix i j) = p (ix2 (rowIn h ch i) j) := by
  refine (shapeCast_apply _ _ _ (bix i j) (chunk_pos i j)).trans (extractStridedSlice_apply _ _ _ _ _ fun a => ?_)
  match a with
  | ⟨0, _⟩ => rfl
  | ⟨1, _⟩ => exact (Nat.zero_add j.val).symm

theorem lastPay_at (v w : Vec Ideal S1x1x1x64x256 .bf16) (i : Fin 64) (j : Fin 256) :
    lastPay v w (bix i j) = ((v (cix i j) : EReal) + (w (cix i j) : EReal) : EReal) := by
  show ((shapeCast S64x256 v shapeCasts_S1x1x1x64x256_S64x256 (bix i j) : EReal) + (shapeCast S64x256 w shapeCasts_S1x1x1x64x256_S64x256 (bix i j) : EReal) : EReal) = _
  rw [shapeCast_apply v _ _ (cix i j) (chunk_pos i j).symm, shapeCast_apply w _ _ (cix i j) (chunk_pos i j).symm]

theorem nextPay_at (v w : Vec Ideal S1x1x1x64x256 .bf16) (i : Fin 64) (j : Fin 256) :
    nextPay v w (cix i j) = ((v (cix i j) : EReal) + (w (cix i j) : EReal) : EReal) :=
  (shapeCast_apply _ _ _ (bix i j) (chunk_pos i j)).trans (lastPay_at v w i j)

/-! ## Rounds -/

/-- Element `(i, j)` of the `r`-round sum of a chunk. -/
theorem sumAt_at (p : Dev nD → FVec Ideal S512x256 .bf16) (h : Fin 2) (ch : Fin 4) (r : ℕ) (c : Dev nD) (i : Fin 64) (j : Fin 256) :
    sumAt p h ch r c (cix i j) = totals (α := EReal) (fun d => p d (ix2 (rowIn h ch i) j)) h r c := by
  induction r generalizing c with
  | zero => rw [sumAt_zero]; exact firstPay_at (p c) h ch i j
  | succ r ih => rw [sumAt_succ, nextPay_at, ih, ih]; rfl

/-- An element of the result: the sum of that element over all devices' products. -/
theorem outAll_at (p : Dev nD → FVec Ideal S512x256 .bf16) (c : Dev nD) (i : Fin 512) (j : Fin 256) :
    outAll p c (ix2 i j) = (∑ d, (p d (ix2 i j) : EReal) : EReal) := by
  have hi := i.isLt
  have hrow : rowIn (Fin.ofNat 2 (i.val / 256)) (Fin.ofNat 4 (i.val / 64)) (Fin.ofNat 64 i.val) = i := by
    apply Fin.ext
    show i.val / 256 % 2 * 256 + i.val / 64 % 4 * 64 + i.val % 64 = i.val
    omega
  refine (outAll_apply p c (ix2 i j)).trans ?_
  show lastAt p (Fin.ofNat 2 (i.val / 256)) (Fin.ofNat 4 (i.val / 64)) c (bix (Fin.ofNat 64 i.val) j) = _
  rw [lastAt_eq, lastPay_at, sumAt_at, sumAt_at, hrow]
  exact totals_all (α := EReal) (fun d => p d (ix2 i j)) (Fin.ofNat 2 (i.val / 256)) c

/-! ## Products -/

/-- An element of a device's own product. -/
theorem product_at (x : Vec Ideal S512x256 .bf16) (w : Vec Ideal S256x256 .bf16) (i : Fin 512) (j : Fin 256) :
    product x w (ix2 i j) = (∑ k : Fin 256, (x (ix2 i k) : EReal) * (w (ix2 k j) : EReal) : EReal) := by
  refine (Ideal.matmul_plain_apply (φ₁ := .bf16) (φ₂ := .bf16) (M := 512) (K := 256) (N := 256) none x w (constant S512x256 .f32 0x00000000#32) i j).trans ?_
  exact (congrArg (· + _) Ideal.ofBits_zero_f32).trans (zero_add _)

end Cert.Butterfly

end
-- ==== Proof.Wants.lean ====
/-
# What the reference computes, over the extended reals

The reference adds the sixteen blocks of rows and multiplies the sum by the matrix.
-/
module

public import proofs.«01_k».proof.Proof.Gen.ReferenceIdeal.Run
public import Idealize.ShloMosaic.Lib.Pipeline.Value
public import Idealize.ShloMosaic.Lib.StackMember

@[expose] public section

noncomputable section

namespace Cert.Butterfly

open Cert.ReferenceIdeal Cert.ReferenceIdeal.Gen Idealize.ShloMosaic Idealize.ShloMosaic.ValueIdx

/-- The reference's result, of its two arguments. -/
def wanted (t : FVec Ideal S8192x256 .bf16) (w : FVec Ideal S256x256 .bf16) : FVec Ideal S512x256 .bf16 :=
  truncf .bf16 (Host.dotGeneral dot_S512x256_S256x256_S512x256_1_0_0_1_n_n none
    (truncf .bf16 (Host.reduceAdd (extf .f32 (shapeCast S16x512x256 t shapeCasts_S8192x256_S16x512x256) bitsLt_bf16_f32)
      (constant S_ .f32 0x00000000#32) reducesTo_S16x512x256_S512x256_d0 h_S_) bitsLt_bf16_f32) w) bitsLt_bf16_f32

/-- Row `i` of block `d`, as a row of the whole array. -/
def rowOf (d : Fin 16) (i : Fin 512) : Fin 8192 := ⟨d.val * 512 + i.val, by have := d.isLt; have := i.isLt; omega⟩

/-- The first axis can be summed away. -/
theorem blocks_reduce : S16x512x256.Reduces [0] S512x256 := by decide

/-- An element of the sum of the blocks. -/
theorem blocks_sum (t : FVec Ideal S8192x256 .bf16) (i : Fin 512) (k : Fin 256) :
    Host.reduceAdd (extf (F := Ideal) .f32 (shapeCast S16x512x256 t shapeCasts_S8192x256_S16x512x256) bitsLt_bf16_f32)
      (constant S_ .f32 0x00000000#32) reducesTo_S16x512x256_S512x256_d0 h_S_ (ix2 i k)
    = (∑ d : Fin 16, (t (ix2 (rowOf d i) k) : EReal) : EReal) := by
  show Ideal.hostReduceAdd reducesTo_S16x512x256_S512x256_d0 _ _ (ix2 i k) = _
  rw [Ideal.hostReduceAdd_single reducesTo_S16x512x256_S512x256_d0 blocks_reduce]
  refine (congrArg (· + _) Ideal.ofBits_zero_f32).trans ((zero_add _).trans (Finset.sum_congr rfl fun d _ => ?_))
  refine shapeCast_apply t _ _ _ ?_
  rw [Shape.rowMajor_val_two, Shape.rowMajor_val_three]
  rfl

/-- An element of the reference's result. -/
theorem wanted_at (t : FVec Ideal S8192x256 .bf16) (w : FVec Ideal S256x256 .bf16) (i : Fin 512) (j : Fin 256) :
    wanted t w (ix2 i j) = (∑ k : Fin 256, (∑ d : Fin 16, (t (ix2 (rowOf d i) k) : EReal)) * (w (ix2 k j) : EReal) : EReal) := by
  refine (StackMember.dotGeneral_plain_apply (m := 512) (k := 256) (n := 256) none _ w i j).trans (Finset.sum_congr rfl fun k _ => ?_)
  exact congrArg (· * (w (ix2 k j) : EReal)) (blocks_sum t i k)

end Cert.Butterfly

end
-- ==== Proof.Equation.lean ====
/-
# The equation

On finite arguments every device of the kernel ends with the reference's result: the sum of the devices' products is the
product of the sum of their blocks.
-/
module

public import proofs.«01_k».proof.Pre_finite_Kernel
public import proofs.«01_k».proof.Proof.Holds
public import proofs.«01_k».proof.Proof.Wants
public import Idealize.ShloMosaic.Lib.Layout

@[expose] public section

noncomputable section

namespace Cert.Butterfly

open Idealize.ShloMosaic Idealize.ShloMosaic.ValueIdx

/-! ## What the precondition says -/

theorem pre_facts : Cert.Pre_finite_Kernel.Facts := ⟨by decide, by decide, by decide⟩

/-- A value of magnitude below infinity is finite. -/
theorem finite_of_lt (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  constructor <;> intro hx <;> subst hx <;> simp [Ideal.cmp] at h

/-- Under the precondition every entry of a device's block of rows is finite. -/
theorem rows_finite [Cert.Pre_finite_Kernel.Facts] (x : FVec Ideal Cert.KernelIdeal.S512x256 .bf16) (w : FVec Ideal Cert.KernelIdeal.S256x256 .bf16)
    (h : (Cert.Pre_finite_Kernel.fn (F := Ideal) x w).1 = fun _ => 1#1) (i : Cert.KernelIdeal.S512x256.Idx) :
    (x i : EReal) ≠ ⊤ ∧ (x i : EReal) ≠ ⊥ := finite_of_lt (x i) (congrFun h i)

/-- Under the precondition every entry of the matrix is finite. -/
theorem matrix_finite [Cert.Pre_finite_Kernel.Facts] (x : FVec Ideal Cert.KernelIdeal.S512x256 .bf16) (w : FVec Ideal Cert.KernelIdeal.S256x256 .bf16)
    (h : (Cert.Pre_finite_Kernel.fn (F := Ideal) x w).2 = fun _ => 1#1) (i : Cert.KernelIdeal.S256x256.Idx) :
    (w i : EReal) ≠ ⊤ ∧ (w i : EReal) ≠ ⊥ := finite_of_lt (w i) (congrFun h i)

/-! ## The two results -/

/-- The array is cut into sixteen blocks of rows. -/
theorem cut : Layout.Tiles ⟨2, ![512, 256]⟩ ⟨2, ![8192, 256]⟩ 0 16 := by decide

/-- Row `i` of device `d`'s block is row `512 d + i` of the array. -/
theorem block_at (t : FVec Ideal Cert.ReferenceIdeal.S8192x256 .bf16) (d : Fin 16) (i : Fin 512) (k : Fin 256) :
    Layout.block ⟨2, ![512, 256]⟩ ⟨2, ![8192, 256]⟩ 0 16 d t cut (ix2 i k) = t (ix2 (rowOf d i) k) :=
  congrArg t (funext fun a => Fin.ext (by
    match a with
    | ⟨0, _⟩ => rfl
    | ⟨1, _⟩ => rfl))

/-- From finite blocks of rows of one array, and one finite matrix, every device's result is the reference's. -/
theorem result_eq (t : FVec Ideal Cert.ReferenceIdeal.S8192x256 .bf16) (w : FVec Ideal Cert.KernelIdeal.S256x256 .bf16)
    (x : Dev Cert.KernelIdeal.nD → FVec Ideal Cert.KernelIdeal.S512x256 .bf16)
    (hx : ∀ d, x d = Layout.block ⟨2, ![512, 256]⟩ ⟨2, ![8192, 256]⟩ 0 16 d t cut)
    (hxf : ∀ d i, (x d i : EReal) ≠ ⊤ ∧ (x d i : EReal) ≠ ⊥) (hwf : ∀ i, (w i : EReal) ≠ ⊤ ∧ (w i : EReal) ≠ ⊥)
    (c : Dev Cert.KernelIdeal.nD) : outAll (F := Ideal) (fun d => product (x d) w) c = wanted t w := by
  funext i
  obtain ⟨a, b, rfl⟩ : ∃ a b, i = ix2 a b := ⟨i 0, i 1, funext fun a => by fin_cases a <;> rfl⟩
  refine (outAll_at _ c a b).trans (Eq.trans ?_ (wanted_at t w a b).symm)
  refine (Finset.sum_congr rfl fun d _ => product_at (x d) w a b).trans ?_
  refine (sum_products (fun d k => x d (ix2 a k)) (fun k => w (ix2 k b)) (fun d k => hxf d _) (fun k => hwf _)).trans ?_
  refine Finset.sum_congr rfl fun k _ => congrArg (· * (w (ix2 k b) : EReal)) (Finset.sum_congr rfl fun d _ => ?_)
  exact (congrFun (hx d) (ix2 a k)).trans (block_at t d a k)

end Cert.Butterfly

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Butterfly.pre_facts

theorem pre_reference_facts : Cert.Pre_finite_ReferenceIdeal.Facts := ⟨by decide, by decide, by decide⟩

/-! ## The frames -/

/-- The two programs of the kernel have the same body table. -/
theorem same_bodies : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (_, _) => rfl

theorem same_defs : Cert.Kernel.defs (F := Bits) = Cert.KernelIdeal.defs (F := Bits) := congrArg (Pipeline.defs _) same_bodies

/-- The kernel as written terminates from every memory, leaves its arguments alone and every counter at zero. -/
theorem frame_kernel : Cert.quiescent_Kernel := by
  intro m ρ _
  rw [same_defs]
  exact (θ_run Cert.KernelIdeal.defs _ _).mono (fun _ h => ⟨fun c => (h.1 c).2, h.2⟩) (Cert.Butterfly.run_main (F := Bits) m ρ)

/-- So does the kernel over the extended reals. -/
theorem frame_ideal : Cert.quiescent_KernelIdeal := fun m ρ _ =>
  (θ_run Cert.KernelIdeal.defs _ _).mono (fun _ h => ⟨fun c => (h.1 c).2, h.2⟩) (Cert.Butterfly.run_main (F := Ideal) m ρ)

/-- So does the reference, which has no counters. -/
theorem frame_reference : Cert.quiescent_ReferenceIdeal := fun m ρ _ =>
  (θ_run Cert.ReferenceIdeal.defs _ _).mono (fun _ h => ⟨fun c => (h c).2, sem_eq_zero_of_no_sems (by decide) _⟩)
    (Cert.ReferenceIdeal.Value.run (F := Ideal) m ρ)

/-! ## The equation -/

/-- From finite arguments, each device holding its block of rows and a copy of the matrix, the array a device ends with is the reference's result. -/
theorem result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal m)
    (hm : ∀ c : Dev Cert.KernelIdeal.nD,
      m ((c : Thread Cert.KernelIdeal.nD Cert.KernelIdeal.τ).loc Cert.KernelIdeal.main_arg0)
          = Layout.block ⟨2, ![512, 256]⟩ ⟨2, ![8192, 256]⟩ 0 16 c (m' (((0 : Dev Cert.ReferenceIdeal.nD) : Thread Cert.ReferenceIdeal.nD Cert.ReferenceIdeal.τ).loc Cert.ReferenceIdeal.main_arg0))
        ∧ m ((c : Thread Cert.KernelIdeal.nD Cert.KernelIdeal.τ).loc Cert.KernelIdeal.main_arg1)
          = m' (((0 : Dev Cert.ReferenceIdeal.nD) : Thread Cert.ReferenceIdeal.nD Cert.ReferenceIdeal.τ).loc Cert.ReferenceIdeal.main_arg1))
    (c : Dev Cert.KernelIdeal.nD) :
    Cert.Butterfly.outAll (Cert.Butterfly.prod (F := Ideal) m) c
      = Cert.Butterfly.wanted (m' (((0 : Dev Cert.ReferenceIdeal.nD) : Thread Cert.ReferenceIdeal.nD Cert.ReferenceIdeal.τ).loc Cert.ReferenceIdeal.main_arg0))
          (m' (((0 : Dev Cert.ReferenceIdeal.nD) : Thread Cert.ReferenceIdeal.nD Cert.ReferenceIdeal.τ).loc Cert.ReferenceIdeal.main_arg1)) := by
  have hw := Cert.Butterfly.matrix_finite _ _ (hpre c).2
  have hp : Cert.Butterfly.prod (F := Ideal) m = fun d => Cert.Butterfly.product (Cert.Butterfly.tX m d)
      (m' (((0 : Dev Cert.ReferenceIdeal.nD) : Thread Cert.ReferenceIdeal.nD Cert.ReferenceIdeal.τ).loc Cert.ReferenceIdeal.main_arg1)) :=
    funext fun d => congrArg (Cert.Butterfly.product (Cert.Butterfly.tX m d)) (hm d).2
  rw [hp]
  refine Cert.Butterfly.result_eq _ _ (Cert.Butterfly.tX m) (fun d => (hm d).1) (fun d => Cert.Butterfly.rows_finite _ _ (hpre d).1) ?_ c
  exact (hm c).2 ▸ hw

/-- On finite arguments every device of the kernel ends with the reference's result. -/
theorem algebraic : Cert.algebraic_KernelIdeal_ReferenceIdeal := fun m ρ m' ρ' hpre hm =>
  ⟨Cert.Butterfly.wanted (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1)),
    (θ_run Cert.KernelIdeal.defs _ _).mono (fun _ h c => ⟨(h.1 c).1.trans (result m m' hpre hm c), (h.1 c).2⟩) (Cert.Butterfly.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, Cert.Butterfly.pre_facts, pre_reference_facts,
    frame_kernel, fun m ρ _ => frame_kernel m ρ trivial, frame_ideal, frame_reference, fun m ρ _ => frame_reference m ρ trivial, trivial, algebraic⟩

end Cert.Proof

end
